-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S100000 32) (main_arg2 : FVec F S128x64 .f32) (main_arg3 : FVec F S64 .f32) (main_arg4 : FVec F S64x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x1 : Shape := ⟨2, ![100000, 1]⟩
abbrev S1x64 : Shape := ⟨2, ![1, 64]⟩
abbrev S1x1 : Shape := ⟨2, ![1, 1]⟩
abbrev S10000x128 : Shape := ⟨2, ![10000, 128]⟩
abbrev S10000x1 : Shape := ⟨2, ![10000, 1]⟩
abbrev S10000 : Shape := ⟨1, ![10000]⟩
abbrev S10000x64 : Shape := ⟨2, ![10000, 64]⟩
abbrev S64x128 : Shape := ⟨2, ![64, 128]⟩

abbrev nBuf : Space → Nat
  | .hbm => 11
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000x1, .i32⟩
  | .hbm, ⟨7, _⟩ => ⟨S1x64, .f32⟩
  | .hbm, ⟨8, _⟩ => ⟨S1x1, .f32⟩
  | .hbm, ⟨9, _⟩ => ⟨S128x64, .f32⟩
  | .hbm, ⟨10, _⟩ => ⟨S64x128, .f32⟩
  | .local _ .vmem, ⟨0, _⟩ => ⟨S10000x128, .f32⟩
  | .local _ .vmem, ⟨1, _⟩ => ⟨S10000x128, .f32⟩
  | .local _ .vmem, ⟨2, _⟩ => ⟨S10000x1, .i32⟩
  | .local _ .vmem, ⟨3, _⟩ => ⟨S10000x1, .i32⟩
  | .local _ .vmem, ⟨4, _⟩ => ⟨S128x64, .f32⟩
  | .local _ .vmem, ⟨5, _⟩ => ⟨S1x64, .f32⟩
  | .local _ .vmem, ⟨6, _⟩ => ⟨S64x1, .f32⟩
  | .local _ .vmem, ⟨7, _⟩ => ⟨S1x1, .f32⟩
  | .local _ .vmem, ⟨8, _⟩ => ⟨S128x64, .f32⟩
  | .local _ .vmem, ⟨9, _⟩ => ⟨S1x64, .f32⟩
  | .local _ .vmem, ⟨10, _⟩ => ⟨S1x64, .f32⟩
  | .local _ .vmem, ⟨11, _⟩ => ⟨S128x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v69 : BitVec 1 := Scalar.cmpi .eq arg0 c9_i32
  let v70 : BitVec 32 := Scalar.extui v69
  let c0_i32_33 : BitVec 32 := 0#32
  let v71 : BitVec 1 := Scalar.cmpi .ne v70 c0_i32_33
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S100000x1 : Shape := ⟨2, ![100000, 1]⟩
abbrev S1x1 : Shape := ⟨2, ![1, 1]⟩
abbrev S64x128 : Shape := ⟨2, ![64, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S_, .f32⟩
  | .hbm, ⟨11, _⟩ => ⟨S100000x64, .f32⟩
  | .hbm, ⟨12, _⟩ => ⟨S100000x64, .f32⟩
  | .hbm, ⟨13, _⟩ => ⟨S100000x1, .f32⟩
  | .hbm, ⟨14, _⟩ => ⟨S1x1, .f32⟩
  | .hbm, ⟨15, _⟩ => ⟨S100000x1, .f32⟩
  | .hbm, ⟨16, _⟩ => ⟨S100000x1, .f32⟩
  | .hbm, ⟨17, _⟩ => ⟨S100000, .f32⟩
  | .hbm, ⟨18, _⟩ => ⟨S100000x1, .i32⟩
  | .hbm, ⟨19, _⟩ => ⟨S64, .i32⟩
  | .hbm, ⟨20, _⟩ => ⟨S1x64, .i32⟩
  | .hbm, ⟨21, _⟩ => ⟨S100000x64, .i32⟩
  | .hbm, ⟨22, _⟩ => ⟨S100000x64, .i32⟩
  | .hbm, ⟨23, _⟩ => ⟨S100000x64, .i1⟩
  | .hbm, ⟨24, _⟩ => ⟨S100000x1, .f32⟩
  | .hbm, ⟨25, _⟩ => ⟨S_, .f32⟩
  | .hbm, ⟨26, _⟩ => ⟨S_, .f32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .i1⟩
  | .hbm, ⟨36, _⟩ => ⟨S_, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .i32⟩
  | .hbm, ⟨41, _⟩ => ⟨S100000, .i32⟩
  | .hbm, ⟨42, _⟩ => ⟨S100000, .i1⟩
  | .hbm, ⟨43, _⟩ => ⟨S_, .i32⟩
  | .hbm, ⟨44, _⟩ => ⟨S100000, .i32⟩
  | .hbm, ⟨45, _⟩ => ⟨S100000, .i32⟩
  | .hbm, ⟨46, _⟩ => ⟨S100000, .i32⟩
  | .hbm, ⟨47, _⟩ => ⟨S100000x1, .i32⟩
  | .hbm, ⟨48, _⟩ => ⟨S100000, .f32⟩
  | .hbm, ⟨49, _⟩ => ⟨S100000, .f32⟩
  | .hbm, ⟨50, _⟩ => ⟨S100000, .f32⟩
  | .hbm, ⟨51, _⟩ => ⟨S_, .f32⟩
  | .hbm, ⟨52, _⟩ => ⟨S64, .f32⟩
  | .hbm, ⟨53, _⟩ => ⟨S100000x1, .i32⟩
  | .hbm, ⟨54, _⟩ => ⟨S64, .f32⟩
  | .hbm, ⟨55, _⟩ => ⟨S_, .i32⟩
  | .hbm, ⟨56, _⟩ => ⟨S100000, .i32⟩
  | .hbm, ⟨57, _⟩ => ⟨S100000, .i1⟩
  | .hbm, ⟨58, _⟩ => ⟨S_, .i32⟩
  | .hbm, ⟨59, _⟩ => ⟨S100000, .i32⟩
  | .hbm, ⟨60, _⟩ => ⟨S100000, .i32⟩
  | .hbm, ⟨61, _⟩ => ⟨S100000, .i32⟩
  | .hbm, ⟨62, _⟩ => ⟨S100000x1, .i32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S64x128, .f32⟩
  | .hbm, ⟨70, _⟩ => ⟨S100000x1, .i32⟩
  | .hbm, ⟨71, _⟩ => ⟨S64x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_c : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Proof.Body.lean ====
/-
  What the body leaves behind at one grid point, as functions of the point's input blocks and of what the three
  carried buffers (highest score, mass, weighted mass) held before it: the payloads of its stores, and the same
  whichever of the three kinds of point it is (first, middle, last).
-/
module

public import proofs.«01_k».proof.Proof.Gen.KernelIdeal.Frame
public import Idealize.ShloMosaic.Lib.Pipeline.Value

@[expose] public section

set_option maxRecDepth 16384

noncomputable section

namespace Cert.KernelIdeal.Readout

open Cert.KernelIdeal Cert.KernelIdeal.Gen Idealize.ShloMosaic Idealize.ShloMosaic.TcCoe Idealize.ShloMosaic.Tactic

variable {F : FTy → Type} [FloatOps F]

/-- The offsets of a whole block are zero. -/
theorem origin : (![0, 0] : Fin 2 → Nat) = fun _ => 0 := funext fun a => by fin_cases a <;> rfl

/-- The highest scores after a block, from those before it. -/
def nextTop (x0 : Vec F S10000x128 .f32) (x1 : Vec F S10000x1 .i32) (x2 : Vec F S128x64 .f32) (x3 : Vec F S1x64 .f32)
    (x4 : Vec F S64x1 .f32) (x5 : Vec F S1x1 .f32) (M : Vec F S1x64 .f32) : Vec F S1x64 .f32 :=
  k0_pay3 (k0_pay13 x0 x1 x2 x3 x4 x5 M)

/-- The masses after a block, from the highest scores and the masses before it. -/
def nextMass (x0 : Vec F S10000x128 .f32) (x1 : Vec F S10000x1 .i32) (x2 : Vec F S128x64 .f32) (x3 : Vec F S1x64 .f32)
    (x4 : Vec F S64x1 .f32) (x5 : Vec F S1x1 .f32) (M : Vec F S1x64 .f32) (S : Vec F S1x64 .f32) : Vec F S1x64 .f32 :=
  k0_pay4 (k0_pay10 x0 x2 x3 x4 x5) (k0_pay11 (F := F) x1) (k0_pay12 M) (k0_pay13 x0 x1 x2 x3 x4 x5 M) k0_pay14 S

/-- The weighted masses after a block, from the highest scores and the weighted masses before it. -/
def nextAcc (x0 : Vec F S10000x128 .f32) (x1 : Vec F S10000x1 .i32) (x2 : Vec F S128x64 .f32) (x3 : Vec F S1x64 .f32)
    (x4 : Vec F S64x1 .f32) (x5 : Vec F S1x1 .f32) (M : Vec F S1x64 .f32) (A : Vec F S128x64 .f32) : Vec F S128x64 .f32 :=
  k0_pay5 x0 (k0_pay10 x0 x2 x3 x4 x5) (k0_pay11 (F := F) x1) (k0_pay12 M) (k0_pay13 x0 x1 x2 x3 x4 x5 M) k0_pay14 A

variable (c : Dev nD) (i : grid0.Coords)
  (a1 : Memref sig .tc .vmem S10000x128 .f32) (h1 : a1.IsWhole)
  (a2 : Memref sig .tc .vmem S10000x1 .i32) (h2 : a2.IsWhole)
  (a3 : Memref sig .tc .vmem S128x64 .f32) (h3 : a3.IsWhole)
  (a4 : Memref sig .tc .vmem S1x64 .f32) (h4 : a4.IsWhole)
  (a5 : Memref sig .tc .vmem S64x1 .f32) (h5 : a5.IsWhole)
  (a6 : Memref sig .tc .vmem S1x1 .f32) (h6 : a6.IsWhole)
  (a7 : Memref sig .tc .vmem S128x64 .f32) (h7 : a7.IsWhole)
  (a8 : Memref sig .tc .vmem S1x64 .f32) (h8 : a8.IsWhole)
  (a9 : Memref sig .tc .vmem S1x64 .f32) (h9 : a9.IsWhole)
  (a10 : Memref sig .tc .vmem S128x64 .f32) (h10 : a10.IsWhole)
  (x0 : Vec F S10000x128 .f32) (x1 : Vec F S10000x1 .i32) (x2 : Vec F S128x64 .f32) (x3 : Vec F S1x64 .f32)
  (x4 : Vec F S64x1 .f32) (x5 : Vec F S1x1 .f32) (M S : Vec F S1x64 .f32) (A : Vec F S128x64 .f32)

/-- The first point leaves the next highest scores of the initial contents. -/
theorem top_A (q0 : cond0_0 i) (q1 : ¬cond0_1 i) :
    sout0_A_0 c i a1 h1 a2 h2 a3 h3 a4 h4 a5 h5 a6 h6 a7 h7 a8 h8 a9 h9 a10 h10 q0 q1 x0 x1 x2 x3 x4 x5 = nextTop x0 x1 x2 x3 x4 x5 k0_pay7 := by
  unfold sout0_A_0
  rw [View.read_writes_eq_canon _ _ _ (scover0_A_0 c i a1 h1 a2 h2 a3 h3 a4 h4 a5 h5 a6 h6 a7 h7 a8 h8 a9 h9 a10 h10 q0 q1 x0 x1 x2 x3 x4 x5)]
  unfold kernelRun0_A
  dsimp only
  sl_unfold_words
  rw [View.canon_cons_unit_zero (S := S1x64) origin]
  unfold nextTop
  simp only [View.readCov_unit_zero (S := S1x64) _ origin, View.readCov_unit_zero (S := S128x64) _ origin, View.readAt_eq_ld, h1.read_unread, h2.read_unread, h3.read_unread, h4.read_unread, h5.read_unread, h6.read_unread, h8.read_unread, h9.read_unread, h10.read_unread,
    View.ld_unit_zero (S := S10000x128) origin, View.ld_unit_zero (S := S10000x1) origin, View.ld_unit_zero (S := S128x64) origin,
    View.ld_unit_zero (S := S1x64) origin, View.ld_unit_zero (S := S64x1) origin, View.ld_unit_zero (S := S1x1) origin]

/-- The first point leaves the next masses of the initial contents. -/
theorem mass_A (q0 : cond0_0 i) (q1 : ¬cond0_1 i) :
    sout0_A_1 c i a1 h1 a2 h2 a3 h3 a4 h4 a5 h5 a6 h6 a7 h7 a8 h8 a9 h9 a10 h10 q0 q1 x0 x1 x2 x3 x4 x5 = nextMass x0 x1 x2 x3 x4 x5 k0_pay7 k0_pay8 := by
  unfold sout0_A_1
  rw [View.read_writes_eq_canon _ _ _ (scover0_A_1 c i a1 h1 a2 h2 a3 h3 a4 h4 a5 h5 a6 h6 a7 h7 a8 h8 a9 h9 a10 h10 q0 q1 x0 x1 x2 x3 x4 x5)]
  unfold kernelRun0_A
  dsimp only
  sl_unfold_words
  rw [View.canon_cons_unit_zero (S := S1x64) origin]
  unfold nextMass
  simp only [View.readCov_unit_zero (S := S1x64) _ origin, View.readCov_unit_zero (S := S128x64) _ origin, View.readAt_eq_ld, h1.read_unread, h2.read_unread, h3.read_unread, h4.read_unread, h5.read_unread, h6.read_unread, h8.read_unread, h9.read_unread, h10.read_unread,
    View.ld_unit_zero (S := S10000x128) origin, View.ld_unit_zero (S := S10000x1) origin, View.ld_unit_zero (S := S128x64) origin,
    View.ld_unit_zero (S := S1x64) origin, View.ld_unit_zero (S := S64x1) origin, View.ld_unit_zero (S := S1x1) origin]

/-- The first point leaves the next weighted masses of the initial contents. -/
theorem acc_A (q0 : cond0_0 i) (q1 : ¬cond0_1 i) :
    sout0_A_2 c i a1 h1 a2 h2 a3 h3 a4 h4 a5 h5 a6 h6 a7 h7 a8 h8 a9 h9 a10 h10 q0 q1 x0 x1 x2 x3 x4 x5 = nextAcc x0 x1 x2 x3 x4 x5 k0_pay7 k0_pay9 := by
  unfold sout0_A_2
  rw [View.read_writes_eq_canon _ _ _ (scover0_A_2 c i a1 h1 a2 h2 a3 h3 a4 h4 a5 h5 a6 h6 a7 h7 a8 h8 a9 h9 a10 h10 q0 q1 x0 x1 x2 x3 x4 x5)]
  unfold kernelRun0_A
  dsimp only
  sl_unfold_words
  rw [View.canon_cons_unit_zero (S := S128x64) origin]
  unfold nextAcc
  simp only [View.readCov_unit_zero (S := S1x64) _ origin, View.readCov_unit_zero (S := S128x64) _ origin, View.readAt_eq_ld, h1.read_unread, h2.read_unread, h3.read_unread, h4.read_unread, h5.read_unread, h6.read_unread, h8.read_unread, h9.read_unread, h10.read_unread,
    View.ld_unit_zero (S := S10000x128) origin, View.ld_unit_zero (S := S10000x1) origin, View.ld_unit_zero (S := S128x64) origin,
    View.ld_unit_zero (S := S1x64) origin, View.ld_unit_zero (S := S64x1) origin, View.ld_unit_zero (S := S1x1) origin]

/-- A middle point leaves the next highest scores. -/
theorem top_B (q0 : ¬cond0_0 i) (q1 : ¬cond0_1 i) :
    sout0_B_0 c i a1 h1 a2 h2 a3 h3 a4 h4 a5 h5 a6 h6 a7 h7 a8 h8 a9 h9 a10 h10 q0 q1 x0 x1 x2 x3 x4 x5 M S A = nextTop x0 x1 x2 x3 x4 x5 M := by
  unfold sout0_B_0
  rw [View.read_writes_eq_canon _ _ _ (scover0_B_0 c i a1 h1 a2 h2 a3 h3 a4 h4 a5 h5 a6 h6 a7 h7 a8 h8 a9 h9 a10 h10 q0 q1 x0 x1 x2 x3 x4 x5 M S A)]
  unfold kernelRun0_B
  dsimp only
  sl_unfold_words
  rw [View.canon_cons_unit_zero (S := S1x64) origin]
  unfold nextTop
  simp only [View.readAt_eq_ld, h1.read_unread, h2.read_unread, h3.read_unread, h4.read_unread, h5.read_unread, h6.read_unread, h8.read_unread, h9.read_unread, h10.read_unread,
    View.ld_unit_zero (S := S10000x128) origin, View.ld_unit_zero (S := S10000x1) origin, View.ld_unit_zero (S := S128x64) origin,
    View.ld_unit_zero (S := S1x64) origin, View.ld_unit_zero (S := S64x1) origin, View.ld_unit_zero (S := S1x1) origin]

/-- A middle point leaves the next masses. -/
theorem mass_B (q0 : ¬cond0_0 i) (q1 : ¬cond0_1 i) :
    sout0_B_1 c i a1 h1 a2 h2 a3 h3 a4 h4 a5 h5 a6 h6 a7 h7 a8 h8 a9 h9 a10 h10 q0 q1 x0 x1 x2 x3 x4 x5 M S A = nextMass x0 x1 x2 x3 x4 x5 M S := by
  unfold sout0_B_1
  rw [View.read_writes_eq_canon _ _ _ (scover0_B_1 c i a1 h1 a2 h2 a3 h3 a4 h4 a5 h5 a6 h6 a7 h7 a8 h8 a9 h9 a10 h10 q0 q1 x0 x1 x2 x3 x4 x5 M S A)]
  unfold kernelRun0_B
  dsimp only
  sl_unfold_words
  rw [View.canon_cons_unit_zero (S := S1x64) origin]
  unfold nextMass
  simp only [View.readAt_eq_ld, h1.read_unread, h2.read_unread, h3.read_unread, h4.read_unread, h5.read_unread, h6.read_unread, h8.read_unread, h9.read_unread, h10.read_unread,
    View.ld_unit_zero (S := S10000x128) origin, View.ld_unit_zero (S := S10000x1) origin, View.ld_unit_zero (S := S128x64) origin,
    View.ld_unit_zero (S := S1x64) origin, View.ld_unit_zero (S := S64x1) origin, View.ld_unit_zero (S := S1x1) origin]

/-- A middle point leaves the next weighted masses. -/
theorem acc_B (q0 : ¬cond0_0 i) (q1 : ¬cond0_1 i) :
    sout0_B_2 c i a1 h1 a2 h2 a3 h3 a4 h4 a5 h5 a6 h6 a7 h7 a8 h8 a9 h9 a10 h10 q0 q1 x0 x1 x2 x3 x4 x5 M S A = nextAcc x0 x1 x2 x3 x4 x5 M A := by
  unfold sout0_B_2
  rw [View.read_writes_eq_canon _ _ _ (scover0_B_2 c i a1 h1 a2 h2 a3 h3 a4 h4 a5 h5 a6 h6 a7 h7 a8 h8 a9 h9 a10 h10 q0 q1 x0 x1 x2 x3 x4 x5 M S A)]
  unfold kernelRun0_B
  dsimp only
  sl_unfold_words
  rw [View.canon_cons_unit_zero (S := S128x64) origin]
  unfold nextAcc
  simp only [View.readAt_eq_ld, h1.read_unread, h2.read_unread, h3.read_unread, h4.read_unread, h5.read_unread, h6.read_unread, h8.read_unread, h9.read_unread, h10.read_unread,
    View.ld_unit_zero (S := S10000x128) origin, View.ld_unit_zero (S := S10000x1) origin, View.ld_unit_zero (S := S128x64) origin,
    View.ld_unit_zero (S := S1x64) origin, View.ld_unit_zero (S := S64x1) origin, View.ld_unit_zero (S := S1x1) origin]

/-- The last point leaves the next highest scores. -/
theorem top_C (q0 : ¬cond0_0 i) (q1 : cond0_1 i) :
    sout0_C_0 c i a1 h1 a2 h2 a3 h3 a4 h4 a5 h5 a6 h6 a7 h7 a8 h8 a9 h9 a10 h10 q0 q1 x0 x1 x2 x3 x4 x5 M S A = nextTop x0 x1 x2 x3 x4 x5 M := by
  unfold sout0_C_0
  rw [View.read_writes_eq_canon _ _ _ (scover0_C_0 c i a1 h1 a2 h2 a3 h3 a4 h4 a5 h5 a6 h6 a7 h7 a8 h8 a9 h9 a10 h10 q0 q1 x0 x1 x2 x3 x4 x5 M S A)]
  unfold kernelRun0_C
  dsimp only
  sl_unfold_words
  rw [View.canon_cons_unit_zero (S := S1x64) origin]
  unfold nextTop
  simp only [View.readAt_eq_ld, h1.read_unread, h2.read_unread, h3.read_unread, h4.read_unread, h5.read_unread, h6.read_unread, h8.read_unread, h9.read_unread, h10.read_unread,
    View.ld_unit_zero (S := S10000x128) origin, View.ld_unit_zero (S := S10000x1) origin, View.ld_unit_zero (S := S128x64) origin,
    View.ld_unit_zero (S := S1x64) origin, View.ld_unit_zero (S := S64x1) origin, View.ld_unit_zero (S := S1x1) origin]

/-- The last point leaves the next masses. -/
theorem mass_C (q0 : ¬cond0_0 i) (q1 : cond0_1 i) :
    sout0_C_1 c i a1 h1 a2 h2 a3 h3 a4 h4 a5 h5 a6 h6 a7 h7 a8 h8 a9 h9 a10 h10 q0 q1 x0 x1 x2 x3 x4 x5 M S A = nextMass x0 x1 x2 x3 x4 x5 M S := by
  unfold sout0_C_1
  rw [View.read_writes_eq_canon _ _ _ (scover0_C_1 c i a1 h1 a2 h2 a3 h3 a4 h4 a5 h5 a6 h6 a7 h7 a8 h8 a9 h9 a10 h10 q0 q1 x0 x1 x2 x3 x4 x5 M S A)]
  unfold kernelRun0_C
  dsimp only
  sl_unfold_words
  rw [View.canon_cons_unit_zero (S := S1x64) origin]
  unfold nextMass
  simp only [View.readAt_eq_ld, h1.read_unread, h2.read_unread, h3.read_unread, h4.read_unread, h5.read_unread, h6.read_unread, h8.read_unread, h9.read_unread, h10.read_unread,
    View.ld_unit_zero (S := S10000x128) origin, View.ld_unit_zero (S := S10000x1) origin, View.ld_unit_zero (S := S128x64) origin,
    View.ld_unit_zero (S := S1x64) origin, View.ld_unit_zero (S := S64x1) origin, View.ld_unit_zero (S := S1x1) origin]

/-- The last point leaves the next weighted masses. -/
theorem acc_C (q0 : ¬cond0_0 i) (q1 : cond0_1 i) :
    sout0_C_2 c i a1 h1 a2 h2 a3 h3 a4 h4 a5 h5 a6 h6 a7 h7 a8 h8 a9 h9 a10 h10 q0 q1 x0 x1 x2 x3 x4 x5 M S A = nextAcc x0 x1 x2 x3 x4 x5 M A := by
  unfold sout0_C_2
  rw [View.read_writes_eq_canon _ _ _ (scover0_C_2 c i a1 h1 a2 h2 a3 h3 a4 h4 a5 h5 a6 h6 a7 h7 a8 h8 a9 h9 a10 h10 q0 q1 x0 x1 x2 x3 x4 x5 M S A)]
  unfold kernelRun0_C
  dsimp only
  sl_unfold_words
  rw [View.canon_cons_unit_zero (S := S128x64) origin]
  unfold nextAcc
  simp only [View.readAt_eq_ld, h1.read_unread, h2.read_unread, h3.read_unread, h4.read_unread, h5.read_unread, h6.read_unread, h8.read_unread, h9.read_unread, h10.read_unread,
    View.ld_unit_zero (S := S10000x128) origin, View.ld_unit_zero (S := S10000x1) origin, View.ld_unit_zero (S := S128x64) origin,
    View.ld_unit_zero (S := S1x64) origin, View.ld_unit_zero (S := S64x1) origin, View.ld_unit_zero (S := S1x1) origin]

/-- The last point writes out the quotient of the weighted masses by the masses it leaves. -/
theorem out_C (q0 : ¬cond0_0 i) (q1 : cond0_1 i) :
    out0_C_6 c i a1 h1 a2 h2 a3 h3 a4 h4 a5 h5 a6 h6 a7 h7 a8 h8 a9 h9 a10 h10 q0 q1 x0 x1 x2 x3 x4 x5 M S A = k0_pay6 (nextMass x0 x1 x2 x3 x4 x5 M S) (nextAcc x0 x1 x2 x3 x4 x5 M A) := by
  unfold out0_C_6
  rw [View.read_writes_eq_canon _ _ _ (cover0_C_6 c i a1 h1 a2 h2 a3 h3 a4 h4 a5 h5 a6 h6 a7 h7 a8 h8 a9 h9 a10 h10 q0 q1 x0 x1 x2 x3 x4 x5 M S A)]
  unfold kernelRun0_C
  dsimp only
  sl_unfold_words
  rw [View.canon_cons_unit_zero (S := S128x64) origin]
  unfold nextMass nextAcc
  simp only [View.readCov_unit_zero (S := S1x64) _ origin, View.readCov_unit_zero (S := S128x64) _ origin, View.readAt_eq_ld, h1.read_unread, h2.read_unread, h3.read_unread, h4.read_unread, h5.read_unread, h6.read_unread, h8.read_unread, h9.read_unread, h10.read_unread,
    View.ld_unit_zero (S := S10000x128) origin, View.ld_unit_zero (S := S10000x1) origin, View.ld_unit_zero (S := S128x64) origin,
    View.ld_unit_zero (S := S1x64) origin, View.ld_unit_zero (S := S64x1) origin, View.ld_unit_zero (S := S1x1) origin]

end Cert.KernelIdeal.Readout

end
-- ==== Proof.Layout.lean ====
/-
  Reading the layout operations of the two programs at an index: rows and columns cast to and from a flat vector,
  rows and columns broadcast to a matrix, a matrix reduced down its columns, and the float constants.
-/
module

public import Idealize.ShloMosaic.Lib.Pipeline.Value
public import Idealize.ShloMosaic.Lib.ValueIdx
public import Idealize.ShloMosaic.Lib.ValueIdxCore
public import Idealize.ShloMosaic.PureOps.Ideal.Laws

@[expose] public section

namespace Cert.Readout

open Idealize.ShloMosaic Idealize.ShloMosaic.ValueIdx

variable {α : Type} {m n : Nat}

/-- A flat vector cast to a column reads the vector at the row. -/
theorem column_at (x : (⟨1, ![n]⟩ : Shape).Idx → α) (h : (⟨1, ![n]⟩ : Shape).ShapeCasts ⟨2, ![n, 1]⟩) (r : Fin n) (z : Fin 1) :
    shapeCast ⟨2, ![n, 1]⟩ x h (ix2 r z) = x (ix1 r) :=
  shapeCast_apply x h _ _ (by
    rw [Shape.rowMajor_val_one, Shape.rowMajor_val_two]
    show r.val = r.val * 1 + z.val
    omega)

/-- A column cast to a flat vector reads the column at the position. -/
theorem flat_column_at (x : (⟨2, ![n, 1]⟩ : Shape).Idx → α) (h : (⟨2, ![n, 1]⟩ : Shape).ShapeCasts ⟨1, ![n]⟩) (r : Fin n) :
    shapeCast ⟨1, ![n]⟩ x h (ix1 r) = x (ix2 r 0) :=
  shapeCast_apply x h _ _ (by
    rw [Shape.rowMajor_val_one, Shape.rowMajor_val_two]
    show r.val * 1 + 0 = r.val
    omega)

/-- A flat vector cast to a row reads the vector at the column. -/
theorem row_at (x : (⟨1, ![n]⟩ : Shape).Idx → α) (h : (⟨1, ![n]⟩ : Shape).ShapeCasts ⟨2, ![1, n]⟩) (z : Fin 1) (g : Fin n) :
    shapeCast ⟨2, ![1, n]⟩ x h (ix2 z g) = x (ix1 g) :=
  shapeCast_apply x h _ _ (by
    rw [Shape.rowMajor_val_one, Shape.rowMajor_val_two]
    show g.val = z.val * n + g.val
    have : z.val = 0 := by omega
    rw [this]; omega)

/-- A row cast to a flat vector reads the row at the position. -/
theorem flat_row_at (x : (⟨2, ![1, n]⟩ : Shape).Idx → α) (h : (⟨2, ![1, n]⟩ : Shape).ShapeCasts ⟨1, ![n]⟩) (g : Fin n) :
    shapeCast ⟨1, ![n]⟩ x h (ix1 g) = x (ix2 0 g) :=
  shapeCast_apply x h _ _ (by
    rw [Shape.rowMajor_val_one, Shape.rowMajor_val_two]
    show 0 * n + g.val = g.val
    omega)

/-- A column broadcast along the rows of a matrix reads the column at the row. -/
theorem column_broadcast_at (x : (⟨2, ![m, 1]⟩ : Shape).Idx → α) (h : (⟨2, ![m, 1]⟩ : Shape).Broadcasts ⟨2, ![m, n]⟩)
    (r : Fin m) (g : Fin n) : broadcastTo ⟨2, ![m, n]⟩ x h (ix2 r g) = x (ix2 r 0) :=
  broadcastTo_apply x h _ _ fun a => by
    match a with
    | ⟨0, _⟩ =>
      show r.val = if m = 1 then 0 else r.val
      split
      · omega
      · rfl
    | ⟨1, _⟩ => rfl

/-- A row broadcast down the columns of a matrix reads the row at the column. -/
theorem row_broadcast_at (x : (⟨2, ![1, n]⟩ : Shape).Idx → α) (h : (⟨2, ![1, n]⟩ : Shape).Broadcasts ⟨2, ![m, n]⟩)
    (r : Fin m) (g : Fin n) : broadcastTo ⟨2, ![m, n]⟩ x h (ix2 r g) = x (ix2 0 g) :=
  broadcastTo_apply x h _ _ fun a => by
    match a with
    | ⟨0, _⟩ => rfl
    | ⟨1, _⟩ =>
      show g.val = if n = 1 then 0 else g.val
      split
      · omega
      · rfl

/-- Reducing a matrix over its rows, the index a row number completes is that row of the column. -/
theorem lift_row (h : (⟨2, ![m, n]⟩ : Shape).Reduces [0] (⟨1, ![n]⟩ : Shape)) (g : Fin n) (r : Fin m) :
    h.lift (ix1 g) r = ix2 r g := by
  funext a
  match a with
  | ⟨0, _⟩ => rfl
  | ⟨1, _⟩ => rfl

/-- A one-bit condition selects as the proposition it decides. -/
theorem select_ofBool (p : Prop) [Decidable p] (a b : α) :
    Scalar.select (BitVec.ofBool (decide p)) a b = if p then a else b := by
  by_cases h : p <;> simp [h, Scalar.select]

/-- The pattern of negative infinity denotes the bottom of the extended reals. -/
theorem negInf_word : Ideal.ofBits .f32 0xFF800000#32 = ⊥ := by
  simp [Ideal.ofBits, Ideal.ieee]

/-- The pattern of positive infinity denotes the top of the extended reals. -/
theorem posInf_word : Ideal.ofBits .f32 0x7F800000#32 = ⊤ := by
  simp [Ideal.ofBits, Ideal.ieee]

/-- The pattern of one denotes one. -/
theorem one_word : Ideal.ofBits .f32 0x3F800000#32 = 1 := by
  exact IdealRules.sign_bit.ideal_onePat .f32

/-- The pattern of zero denotes zero. -/
theorem zero_word : Ideal.ofBits .f32 0x00000000#32 = 0 := by
  exact IdealRules.sign_bit.ideal_zero .f32

end Cert.Readout

end
-- ==== Proof.Softmax.lean ====
/-
  The arithmetic of a softmax-weighted sum over a set of nodes, over the extended reals: the highest score of a set,
  the sum of weights against a level, how that sum moves when the level rises, and the two ways of dividing.
-/
module

public import Idealize.ShloMosaic.PureOps.Ideal

@[expose] public section

noncomputable section

namespace Cert.Readout

open Idealize.ShloMosaic

variable {ι : Type} (σ w : ι → ℝ)

/-- The highest score among the nodes `S`, and `⊥` when there are none. -/
def top (S : Finset ι) : EReal := S.sup fun n => (σ n : EReal)

/-- The sum over the nodes `S` of `w n · e^(σ n - M)`. -/
def mass (S : Finset ι) (M : EReal) : EReal := ∑ n ∈ S, (w n : EReal) * Ideal.exp ((σ n : EReal) - M)

/-- The factor by which sums taken against the level `M` are carried over to the level `M'`: one when nothing has been
    seen, else `e^(M - M')`. -/
def carry (M M' : EReal) : EReal := if M' = ⊥ then 1 else Ideal.exp (M - M')

/-- No nodes have no highest score. -/
theorem top_empty : top σ ∅ = ⊥ := rfl

/-- The highest score of some nodes is one of their scores, so it is real. -/
theorem exists_top {S : Finset ι} (hS : S.Nonempty) : ∃ M : ℝ, top σ S = (M : EReal) := by
  obtain ⟨n, -, h⟩ := Finset.exists_mem_eq_sup S hS fun n => (σ n : EReal)
  exact ⟨σ n, h⟩

/-- The highest score of two sets together is the larger of their highest scores. -/
theorem top_union [DecidableEq ι] (S T : Finset ι) : top σ (S ∪ T) = max (top σ S) (top σ T) := Finset.sup_union

/-- No nodes have no mass. -/
theorem mass_empty (M : EReal) : mass σ w ∅ M = 0 := rfl

/-- The mass of two disjoint sets is the sum of theirs. -/
theorem mass_union [DecidableEq ι] {S T : Finset ι} (h : Disjoint S T) (M : EReal) :
    mass σ w (S ∪ T) M = mass σ w S M + mass σ w T M := Finset.sum_union h

/-- A finite sum of reals is the same sum in the extended reals. -/
theorem coe_sum (S : Finset ι) (f : ι → ℝ) : ((∑ n ∈ S, f n : ℝ) : EReal) = ∑ n ∈ S, (f n : EReal) := by
  classical
  induction S using Finset.induction_on with
  | empty => simp
  | insert a S ha ih => rw [Finset.sum_insert ha, Finset.sum_insert ha, EReal.coe_add, ih]

/-- Against a real level the mass is a real sum. -/
theorem mass_coe (S : Finset ι) (M : ℝ) :
    mass σ w S (M : EReal) = ((∑ n ∈ S, w n * Real.exp (σ n - M) : ℝ) : EReal) := by
  rw [coe_sum]
  refine Finset.sum_congr rfl fun n _ => ?_
  rw [← EReal.coe_sub, Ideal.exp_coe, ← EReal.coe_mul]

/-- Carrying a mass from its set's highest score to the highest score of a larger set. -/
theorem mass_carry [DecidableEq ι] (S T : Finset ι) :
    mass σ w S (top σ S) * carry (top σ S) (top σ (S ∪ T)) = mass σ w S (top σ (S ∪ T)) := by
  rcases S.eq_empty_or_nonempty with rfl | hS
  · rw [mass_empty, mass_empty, zero_mul]
  · obtain ⟨M, hM⟩ := exists_top σ hS
    obtain ⟨M', hM'⟩ := exists_top σ (hS.mono (Finset.subset_union_left (s₂ := T)))
    rw [hM, hM', carry, if_neg (EReal.coe_ne_bot M'), ← EReal.coe_sub, Ideal.exp_coe, mass_coe, mass_coe, ← EReal.coe_mul,
      Finset.sum_mul]
    congr 1
    refine Finset.sum_congr rfl fun n _ => ?_
    rw [mul_assoc, ← Real.exp_add, sub_add_sub_cancel]

/-- One step of the sweep: the mass carried to the new level, plus the mass of the new nodes, is the mass of all. -/
theorem mass_step [DecidableEq ι] {S T : Finset ι} (h : Disjoint S T) :
    mass σ w S (top σ S) * carry (top σ S) (top σ (S ∪ T)) + mass σ w T (top σ (S ∪ T))
      = mass σ w (S ∪ T) (top σ (S ∪ T)) := by
  rw [mass_carry, mass_union σ w h]

/-- Dividing the weighted mass by the plain mass at the end is weighting each node by its quotient: the level is the
    highest score (zero for no nodes, where both sides are zero). -/
theorem divide (S : Finset ι) :
    (if 0 < mass σ (fun _ => 1) S (top σ S)
      then Ideal.div (mass σ w S (top σ S)) (mass σ (fun _ => 1) S (top σ S)) else 0)
      = ∑ n ∈ S, (w n : EReal) * Ideal.div
          (Ideal.exp ((σ n : EReal) - (if max (top σ S) (-top σ S) < ⊤ then top σ S else 0)))
          (∑ k ∈ S, Ideal.exp ((σ k : EReal) - (if max (top σ S) (-top σ S) < ⊤ then top σ S else 0))) := by
  rcases S.eq_empty_or_nonempty with rfl | hS
  · simp [mass_empty]
  · obtain ⟨M, hM⟩ := exists_top σ hS
    have hfin : max (top σ S) (-top σ S) < ⊤ := by
      rw [hM, ← EReal.coe_neg]; exact max_lt (EReal.coe_lt_top _) (EReal.coe_lt_top _)
    rw [if_pos hfin, hM, mass_coe, mass_coe]
    have hpos : 0 < ∑ n ∈ S, (1 : ℝ) * Real.exp (σ n - M) :=
      Finset.sum_pos (fun n _ => by rw [one_mul]; exact Real.exp_pos _) hS
    have hsum : ∑ k ∈ S, Ideal.exp ((σ k : EReal) - (M : EReal))
        = ((∑ n ∈ S, (1 : ℝ) * Real.exp (σ n - M) : ℝ) : EReal) := by
      rw [coe_sum]
      refine Finset.sum_congr rfl fun n _ => ?_
      rw [one_mul, ← EReal.coe_sub, Ideal.exp_coe]
    rw [if_pos (by exact_mod_cast hpos), hsum, Ideal.div_coe hpos.ne', ← EReal.coe_mul, Finset.sum_mul, coe_sum]
    refine Finset.sum_congr rfl fun n _ => ?_
    rw [Ideal.div_coe hpos.ne', ← EReal.coe_sub, Ideal.exp_coe, ← EReal.coe_mul, ← EReal.coe_mul, mul_assoc]

end Cert.Readout

end
-- ==== Proof.Block.lean ====
/-
  What one block computes over the extended reals, element by element: the score of each row, which rows belong to
  which segment, and how the highest score, the mass and the weighted mass of a segment move over the block.
-/
module

public import proofs.«01_k».proof.Proof.Body
public import proofs.«01_k».proof.Proof.Layout
public import proofs.«01_k».proof.Proof.Softmax

@[expose] public section

set_option maxRecDepth 16384

noncomputable section

namespace Cert.KernelIdeal.Readout

open Cert.KernelIdeal Cert.KernelIdeal.Gen Cert.Readout Idealize.ShloMosaic Idealize.ShloMosaic.ValueIdx

/-- The product of an `m × k` by a `k × n` block at an entry: the sum of the products along the common axis. -/
theorem dot_hidden_at (l : FVec Ideal S10000x128 .f32) (r : FVec Ideal S128x64 .f32) (i : Fin 10000) (j : Fin 64) :
    matmul dot_S10000x128_S128x64_S10000x64_1_0_0_1_n_n none l r (constant S10000x64 .f32 0x00000000#32) (ix2 i j)
      = ∑ k : Fin 128, l (ix2 i k) * r (ix2 k j) := by
  refine (Ideal.matmul_constant_zero_apply _ _ _ _ _).trans ?_
  rw [← Equiv.sum_comp (contrEquiv1 dot_S10000x128_S128x64_S10000x64_1_0_0_1_n_n 128 rfl rfl).symm]
  refine Finset.sum_congr rfl fun k _ => ?_
  refine congrArg₂ (fun a b => l a * r b) (funext fun a => ?_) (funext fun a => ?_)
  · match a with
    | ⟨0, _⟩ => rfl
    | ⟨1, _⟩ => rfl
  · match a with
    | ⟨0, _⟩ => rfl
    | ⟨1, _⟩ => rfl

/-- The product of the hidden block by the output weights at a row. -/
theorem dot_score_at (l : FVec Ideal S10000x64 .f32) (r : FVec Ideal S64x1 .f32) (i : Fin 10000) :
    matmul dot_S10000x64_S64x1_S10000x1_1_0_0_1_n_n none l r (constant S10000x1 .f32 0x00000000#32) (ix2 i 0)
      = ∑ k : Fin 64, l (ix2 i k) * r (ix2 k 0) := by
  refine (Ideal.matmul_constant_zero_apply _ _ _ _ _).trans ?_
  rw [← Equiv.sum_comp (contrEquiv1 dot_S10000x64_S64x1_S10000x1_1_0_0_1_n_n 64 rfl rfl).symm]
  refine Finset.sum_congr rfl fun k _ => ?_
  refine congrArg₂ (fun a b => l a * r b) (funext fun a => ?_) (funext fun a => ?_)
  · match a with
    | ⟨0, _⟩ => rfl
    | ⟨1, _⟩ => rfl
  · match a with
    | ⟨0, _⟩ => rfl
    | ⟨1, _⟩ => rfl

/-- The product of the transposed feature block by the block of weights at an entry: the sum over the rows. -/
theorem dot_rows_at (l : FVec Ideal S10000x128 .f32) (r : FVec Ideal S10000x64 .f32) (d : Fin 128) (g : Fin 64) :
    matmul dot_S10000x128_S10000x64_S128x64_0_0_1_1_n_n none l r (constant S128x64 .f32 0x00000000#32) (ix2 d g)
      = ∑ k : Fin 10000, l (ix2 k d) * r (ix2 k g) := by
  refine (Ideal.matmul_constant_zero_apply _ _ _ _ _).trans ?_
  rw [← Equiv.sum_comp (contrEquiv1 dot_S10000x128_S10000x64_S128x64_0_0_1_1_n_n 10000 rfl rfl).symm]
  refine Finset.sum_congr rfl fun k _ => ?_
  refine congrArg₂ (fun a b => l a * r b) (funext fun a => ?_) (funext fun a => ?_)
  · match a with
    | ⟨0, _⟩ => rfl
    | ⟨1, _⟩ => rfl
  · match a with
    | ⟨0, _⟩ => rfl
    | ⟨1, _⟩ => rfl

variable (x0 : Vec Ideal S10000x128 .f32) (x1 : Vec Ideal S10000x1 .i32) (x2 : Vec Ideal S128x64 .f32)
  (x3 : Vec Ideal S1x64 .f32) (x4 : Vec Ideal S64x1 .f32) (x5 : Vec Ideal S1x1 .f32)

/-- The score the block computes for one of its rows: the two-layer network on the row's features. -/
def rowScore (r : Fin 10000) : EReal :=
  (∑ k : Fin 64, max ((∑ d : Fin 128, x0 (ix2 r d) * x2 (ix2 d k)) + x3 (ix2 0 k)) 0 * x4 (ix2 k 0)) + x5 (ix2 0 0)

/-- The block's scores are the rows' scores. -/
theorem scores_at (r : Fin 10000) : k0_pay10 (F := Ideal) x0 x2 x3 x4 x5 (ix1 r) = rowScore x0 x2 x3 x4 x5 r := by
  unfold k0_pay10 rowScore
  rw [flat_column_at, addf_apply, dot_score_at]
  refine congrArg₂ (· + ·) (Finset.sum_congr rfl fun k _ => ?_) ?_
  · rw [maximumf_apply, addf_apply, dot_hidden_at, row_broadcast_at, shapeCast_self, broadcast_apply]
    exact congrArg (fun z => max _ z * _) zero_word
  · rw [row_broadcast_at, shapeCast_self]

/-- A row belongs to the segment whose number its batch word is. -/
theorem member_at (r : Fin 10000) (g : Fin 64) :
    k0_pay11 (F := Ideal) x1 (ix2 r g) = BitVec.ofBool (decide (x1 (ix2 r 0) = BitVec.ofNat 32 g.val)) := by
  unfold k0_pay11
  dsimp only
  show IntOp.cmpi .eq (broadcastTo S10000x64 _ _ (ix2 r g)) _ = _
  rw [column_broadcast_at, column_at, flat_column_at, shapeCast_self, iota_single_apply]
  rfl

/-- A carried row is read back flat. -/
theorem carried_at (M : Vec Ideal S1x64 .f32) (g : Fin 64) : k0_pay12 (F := Ideal) M (ix1 g) = M (ix2 0 g) := by
  unfold k0_pay12
  exact flat_row_at _ _ _

/-- The new highest score of a segment: the larger of the old one and the scores of the block's member rows. -/
theorem newTop_at (M : Vec Ideal S1x64 .f32) (g : Fin 64) :
    k0_pay13 (F := Ideal) x0 x1 x2 x3 x4 x5 M (ix1 g)
      = max (M (ix2 0 g)) ((Finset.univ : Finset (Fin 10000)).fold max ⊥ fun r =>
          if x1 (ix2 r 0) = BitVec.ofNat 32 g.val then rowScore x0 x2 x3 x4 x5 r else ⊥) := by
  unfold k0_pay13
  dsimp only
  rw [maximumf_apply, carried_at]
  refine congrArg (max _) ?_
  refine (Ideal.multiReduction_maximumf_single _ _ _ _ _ _).trans ?_
  have hb : (FloatOps.ofBits .f32 0xFF800000#32 : Ideal .f32) = ⊥ := negInf_word
  rw [hb]
  refine congrArg (Finset.fold max ⊥ · Finset.univ) (funext fun (r : Fin 10000) => ?_)
  have hl : reduces_S10000x64_S64.lift (ix1 g) r = ix2 r g := lift_row _ g r
  show select _ _ _ (reduces_S10000x64_S64.lift (ix1 g) r) = _
  rw [hl, select_apply, member_at, select_ofBool, column_broadcast_at, shapeCast_self, column_at, scores_at,
    broadcast_apply]

/-- The factor that carries an old mass over to the new highest score. -/
theorem factor_at (u v : FVec Ideal S64 .f32) (g : Fin 64) :
    k0_pay1 (F := Ideal) u v k0_pay14 (ix1 g) = carry (u (ix1 g)) (v (ix1 g)) := by
  unfold k0_pay1 k0_pay14 carry
  dsimp only
  rw [select_apply, cmpf_apply, broadcast_apply, broadcast_apply]
  have h0 : (Scalar.ofBits .f32 0xFF800000#32 : Ideal .f32) = ⊥ := negInf_word
  have h1 : (Scalar.ofBits .f32 0x3F800000#32 : Ideal .f32) = 1 := one_word
  rw [h0, h1]
  exact select_ofBool _ _ _

/-- A row's weight in a segment: the exponential of its score below the highest if it is a member, nothing otherwise. -/
theorem weight_at (v : FVec Ideal S64 .f32) (r : Fin 10000) (g : Fin 64) :
    k0_pay2 (F := Ideal) (k0_pay10 x0 x2 x3 x4 x5) (k0_pay11 (F := Ideal) x1) v (ix2 r g)
      = if x1 (ix2 r 0) = BitVec.ofNat 32 g.val then Ideal.exp (rowScore x0 x2 x3 x4 x5 r - v (ix1 g)) else 0 := by
  unfold k0_pay2
  rw [select_apply, member_at, select_ofBool, broadcast_apply]
  have h0 : (Scalar.ofBits .f32 0x00000000#32 : Ideal .f32) = 0 := zero_word
  rw [h0]
  refine congrArg (fun z : EReal => if x1 (ix2 r 0) = BitVec.ofNat 32 g.val then z else 0) ?_
  show Ideal.exp (broadcastTo S10000x64 _ _ (ix2 r g) - broadcastTo S10000x64 _ _ (ix2 r g)) = _
  rw [column_broadcast_at, column_at, scores_at, row_broadcast_at, row_at]

/-- The highest score of a segment after the block. -/
theorem nextTop_at (M : Vec Ideal S1x64 .f32) (g : Fin 64) :
    nextTop (F := Ideal) x0 x1 x2 x3 x4 x5 M (ix2 0 g)
      = max (M (ix2 0 g)) ((Finset.univ : Finset (Fin 10000)).fold max ⊥ fun r =>
          if x1 (ix2 r 0) = BitVec.ofNat 32 g.val then rowScore x0 x2 x3 x4 x5 r else ⊥) := by
  unfold nextTop k0_pay3
  exact (row_at _ _ _ _).trans (newTop_at ..)

/-- The mass of a segment after the block: the old mass carried over, and the weights of the block's rows. -/
theorem nextMass_at (M S : Vec Ideal S1x64 .f32) (g : Fin 64) :
    nextMass (F := Ideal) x0 x1 x2 x3 x4 x5 M S (ix2 0 g)
      = S (ix2 0 g) * carry (M (ix2 0 g)) (nextTop (F := Ideal) x0 x1 x2 x3 x4 x5 M (ix2 0 g))
        + ∑ r : Fin 10000, if x1 (ix2 r 0) = BitVec.ofNat 32 g.val
            then Ideal.exp (rowScore x0 x2 x3 x4 x5 r - nextTop (F := Ideal) x0 x1 x2 x3 x4 x5 M (ix2 0 g)) else 0 := by
  have ht : nextTop (F := Ideal) x0 x1 x2 x3 x4 x5 M (ix2 0 g) = k0_pay13 (F := Ideal) x0 x1 x2 x3 x4 x5 M (ix1 g) := by
    unfold nextTop k0_pay3
    exact row_at _ _ _ _
  rw [ht]
  unfold nextMass k0_pay4
  dsimp only
  rw [row_at, addf_apply, mulf_apply, flat_row_at, factor_at, carried_at]
  refine congrArg (HAdd.hAdd _) ?_
  refine (Ideal.multiReduction_add_single _ _ _ _ _ _).trans (Finset.sum_congr rfl fun (r : Fin 10000) _ => ?_)
  have hl : reduces_S10000x64_S64.lift (ix1 g) r = ix2 r g := lift_row _ g r
  rw [hl, weight_at]

/-- The weighted mass of a segment after the block: the old one carried over, and the block's rows, weighted. -/
theorem nextAcc_at (M : Vec Ideal S1x64 .f32) (A : Vec Ideal S128x64 .f32) (d : Fin 128) (g : Fin 64) :
    nextAcc (F := Ideal) x0 x1 x2 x3 x4 x5 M A (ix2 d g)
      = A (ix2 d g) * carry (M (ix2 0 g)) (nextTop (F := Ideal) x0 x1 x2 x3 x4 x5 M (ix2 0 g))
        + ∑ r : Fin 10000, x0 (ix2 r d) * if x1 (ix2 r 0) = BitVec.ofNat 32 g.val
            then Ideal.exp (rowScore x0 x2 x3 x4 x5 r - nextTop (F := Ideal) x0 x1 x2 x3 x4 x5 M (ix2 0 g)) else 0 := by
  have ht : nextTop (F := Ideal) x0 x1 x2 x3 x4 x5 M (ix2 0 g) = k0_pay13 (F := Ideal) x0 x1 x2 x3 x4 x5 M (ix1 g) := by
    unfold nextTop k0_pay3
    exact row_at _ _ _ _
  rw [ht]
  unfold nextAcc k0_pay5
  rw [shapeCast_self, addf_apply, mulf_apply, row_broadcast_at, row_at, factor_at, carried_at, dot_rows_at]
  refine congrArg (HAdd.hAdd _) (Finset.sum_congr rfl fun r _ => ?_)
  rw [weight_at]

/-- What the last point writes out: the weighted mass over the mass, and zero where there is no mass. -/
theorem quotient_at (S : Vec Ideal S1x64 .f32) (A : Vec Ideal S128x64 .f32) (d : Fin 128) (g : Fin 64) :
    k0_pay6 (F := Ideal) S A (ix2 d g)
      = if 0 < S (ix2 0 g) then Ideal.div (A (ix2 d g)) (S (ix2 0 g)) else 0 := by
  unfold k0_pay6
  have h0 : (Scalar.ofBits .f32 0x00000000#32 : Ideal .f32) = 0 := zero_word
  rw [select_apply, row_broadcast_at, shapeCast_self, row_at, cmpf_apply, flat_row_at, broadcast_apply, broadcast_apply,
    h0, divf_apply, row_broadcast_at, row_at, flat_row_at]
  exact select_ofBool _ _ _

/-- Before the first block the highest score of a segment is the bottom … -/
theorem initTop_at (g : Fin 64) : k0_pay7 (F := Ideal) (ix2 0 g) = ⊥ := by
  unfold k0_pay7
  rw [shapeCast_self]
  exact negInf_word

/-- … its mass is zero … -/
theorem initMass_at (g : Fin 64) : k0_pay8 (F := Ideal) (ix2 0 g) = 0 := by
  unfold k0_pay8
  rw [shapeCast_self]
  exact zero_word

/-- … and so is its weighted mass. -/
theorem initAcc_at (d : Fin 128) (g : Fin 64) : k0_pay9 (F := Ideal) (ix2 d g) = 0 := by
  unfold k0_pay9
  rw [shapeCast_self]
  exact zero_word

end Cert.KernelIdeal.Readout

end
-- ==== Proof.Input.lean ====
/-
  What the blocks of a grid point hold: point `t` sees rows `10000 t` to `10000 t + 9999` of the features and of the
  batch numbers, and the whole of the four weight arrays.
-/
module

public import proofs.«01_k».proof.Proof.Gen.KernelIdeal.Frame
public import proofs.«01_k».proof.Proof.Layout
public import Idealize.ShloMosaic.Lib.StableHlo.Run

@[expose] public section

set_option maxRecDepth 16384

noncomputable section

namespace Cert.KernelIdeal.Readout

open Cert.KernelIdeal Cert.KernelIdeal.Gen Cert.Readout Idealize.ShloMosaic Idealize.ShloMosaic.TcCoe
open Idealize.ShloMosaic.ValueIdx Idealize.ShloMosaic.Tactic

variable {F : FTy → Type} [FloatOps F] (m : (ℓ : Loc nD τ sig) → Buf (Elt F) ℓ) (c : Dev nD)

/-- The node that row `r` of point `t`'s block is. -/
def node (t : Fin cfg0.N) (r : Fin 10000) : Fin 100000 :=
  ⟨10000 * t.val + r.val, by have := t.isLt; have hN : cfg0.N = 10 := N_0; omega⟩

/-- When the blocks are read the batch numbers have been made a column … -/
theorem batch_column : V m c main_v0 = shapeCast S100000x1 (m ((c : Thread nD τ).loc main_arg1)) shapeCasts_S100000_S100000x1 := by
  show StableHlo.after _ _ _ = _
  simp only [hostOps0, List.flatten_cons, List.flatten_nil, List.append_nil]
  after_results_simp
  rfl

/-- … the hidden bias a row … -/
theorem bias_row : V m c main_v1 = shapeCast S1x64 (m ((c : Thread nD τ).loc main_arg3)) shapeCasts_S64_S1x64 := by
  show StableHlo.after _ _ _ = _
  simp only [hostOps0, List.flatten_cons, List.flatten_nil, List.append_nil]
  after_results_simp
  rfl

/-- … and the output bias a one-by-one matrix. -/
theorem bias_cell : V m c main_v2 = shapeCast S1x1 (m ((c : Thread nD τ).loc main_arg5)) shapeCasts_S1_S1x1 := by
  show StableHlo.after _ _ _ = _
  simp only [hostOps0, List.flatten_cons, List.flatten_nil, List.append_nil]
  after_results_simp
  rfl

/-- The feature window moves one block down at each point. -/
theorem index_features : ∀ t : Fin cfg0.N, win0_0.index t 0 = t.val ∧ win0_0.index t 1 = 0 := by decide +kernel
/-- So does the batch window. -/
theorem index_batch : ∀ t : Fin cfg0.N, win0_1.index t 0 = t.val ∧ win0_1.index t 1 = 0 := by decide +kernel
/-- The hidden weights stay. -/
theorem index_w1 : ∀ t : Fin cfg0.N, win0_2.index t 0 = 0 ∧ win0_2.index t 1 = 0 := by decide +kernel
/-- The hidden bias stays. -/
theorem index_b1 : ∀ t : Fin cfg0.N, win0_3.index t 0 = 0 ∧ win0_3.index t 1 = 0 := by decide +kernel
/-- The output weights stay. -/
theorem index_w2 : ∀ t : Fin cfg0.N, win0_4.index t 0 = 0 ∧ win0_4.index t 1 = 0 := by decide +kernel
/-- The output bias stays. -/
theorem index_b2 : ∀ t : Fin cfg0.N, win0_5.index t 0 = 0 ∧ win0_5.index t 1 = 0 := by decide +kernel

/-- Row `r` of the feature block is the features of its node. -/
theorem features_at (t : Fin cfg0.N) (r : Fin 10000) (d : Fin 128) :
    iblk m c 0 t (ix2 r d) = m ((c : Thread nD τ).loc main_arg0) (ix2 (node t r) d) := by
  unfold iblk
  rw [View.read_apply]
  show V m c main_arg0 _ = _
  rw [V_main_arg0]
  congr 1
  funext a
  apply Fin.ext
  match a with
  | ⟨0, _⟩ =>
    show win0_0.index t 0 * 10000 + 1 * r.val = 10000 * t.val + r.val
    rw [(index_features t).1]; omega
  | ⟨1, _⟩ =>
    show win0_0.index t 1 * 128 + 1 * d.val = d.val
    rw [(index_features t).2]; omega

/-- Row `r` of the batch block is the batch number of its node. -/
theorem batch_at (t : Fin cfg0.N) (r : Fin 10000) :
    iblk m c 1 t (ix2 r (0 : Fin 1)) = m ((c : Thread nD τ).loc main_arg1) (ix1 (node t r)) := by
  unfold iblk
  rw [View.read_apply]
  show V m c main_v0 _ = _
  rw [batch_column]
  refine Eq.trans (congrArg _ (?_ : _ = ix2 (node t r) (0 : Fin 1))) (column_at _ _ _ _)
  funext a
  apply Fin.ext
  match a with
  | ⟨0, _⟩ =>
    show win0_1.index t 0 * 10000 + 1 * r.val = 10000 * t.val + r.val
    rw [(index_batch t).1]; omega
  | ⟨1, _⟩ =>
    show win0_1.index t 1 * 1 + 1 * 0 = 0
    rw [(index_batch t).2]

/-- The block of hidden weights is the hidden weights. -/
theorem w1_at (t : Fin cfg0.N) (d : Fin 128) (k : Fin 64) :
    iblk m c 2 t (ix2 d k) = m ((c : Thread nD τ).loc main_arg2) (ix2 d k) := by
  unfold iblk
  rw [View.read_apply]
  show V m c main_arg2 _ = _
  rw [V_main_arg2]
  congr 1
  funext a
  apply Fin.ext
  match a with
  | ⟨0, _⟩ =>
    show win0_2.index t 0 * 128 + 1 * d.val = d.val
    rw [(index_w1 t).1]; omega
  | ⟨1, _⟩ =>
    show win0_2.index t 1 * 64 + 1 * k.val = k.val
    rw [(index_w1 t).2]; omega

/-- The block of the hidden bias is the hidden bias. -/
theorem b1_at (t : Fin cfg0.N) (k : Fin 64) :
    iblk m c 3 t (ix2 (0 : Fin 1) k) = m ((c : Thread nD τ).loc main_arg3) (ix1 k) := by
  unfold iblk
  rw [View.read_apply]
  show V m c main_v1 _ = _
  rw [bias_row]
  refine Eq.trans (congrArg _ (?_ : _ = ix2 (0 : Fin 1) k)) (row_at _ _ _ _)
  funext a
  apply Fin.ext
  match a with
  | ⟨0, _⟩ =>
    show win0_3.index t 0 * 1 + 1 * 0 = 0
    rw [(index_b1 t).1]
  | ⟨1, _⟩ =>
    show win0_3.index t 1 * 64 + 1 * k.val = k.val
    rw [(index_b1 t).2]; omega

/-- The block of output weights is the output weights. -/
theorem w2_at (t : Fin cfg0.N) (k : Fin 64) :
    iblk m c 4 t (ix2 k (0 : Fin 1)) = m ((c : Thread nD τ).loc main_arg4) (ix2 k (0 : Fin 1)) := by
  unfold iblk
  rw [View.read_apply]
  show V m c main_arg4 _ = _
  rw [V_main_arg4]
  congr 1
  funext a
  apply Fin.ext
  match a with
  | ⟨0, _⟩ =>
    show win0_4.index t 0 * 64 + 1 * k.val = k.val
    rw [(index_w2 t).1]; omega
  | ⟨1, _⟩ =>
    show win0_4.index t 1 * 1 + 1 * 0 = 0
    rw [(index_w2 t).2]

/-- The block of the output bias is the output bias. -/
theorem b2_at (t : Fin cfg0.N) :
    iblk m c 5 t (ix2 (0 : Fin 1) (0 : Fin 1)) = m ((c : Thread nD τ).loc main_arg5) (ix1 (0 : Fin 1)) := by
  unfold iblk
  rw [View.read_apply]
  show V m c main_v2 _ = _
  rw [bias_cell]
  refine Eq.trans (congrArg _ (?_ : _ = ix2 (0 : Fin 1) (0 : Fin 1))) (row_at _ _ _ _)
  funext a
  apply Fin.ext
  match a with
  | ⟨0, _⟩ =>
    show win0_5.index t 0 * 1 + 1 * 0 = 0
    rw [(index_b2 t).1]
  | ⟨1, _⟩ =>
    show win0_5.index t 1 * 1 + 1 * 0 = 0
    rw [(index_b2 t).2]

end Cert.KernelIdeal.Readout

end
-- ==== Proof.Network.lean ====
/-
  The two-layer network that scores a node, and that it has a real value at real inputs.
-/
module

public import proofs.«01_k».proof.Proof.Softmax

@[expose] public section

noncomputable section

namespace Cert.Readout

variable {δ κ : Type} [Fintype δ] [Fintype κ]

/-- The score of a node with features `x`: a hidden layer clipped below at zero, then a weighted sum and a bias. -/
def network (x : δ → EReal) (w1 : δ → κ → EReal) (b1 w2 : κ → EReal) (b2 : EReal) : EReal :=
  (∑ k : κ, max ((∑ d : δ, x d * w1 d k) + b1 k) 0 * w2 k) + b2

/-- An extended real that is neither infinity. -/
def IsReal (a : EReal) : Prop := ∃ r : ℝ, a = (r : EReal)

/-- A sum of real values is real. -/
theorem isReal_sum {ι : Type} (S : Finset ι) (f : ι → EReal) (h : ∀ i, IsReal (f i)) : IsReal (∑ i ∈ S, f i) := by
  choose g hg using h
  exact ⟨∑ i ∈ S, g i, by rw [coe_sum]; exact Finset.sum_congr rfl fun i _ => hg i⟩

/-- A sum of two reals is real. -/
theorem isReal_add {a b : EReal} : IsReal a → IsReal b → IsReal (a + b) := by
  rintro ⟨r, rfl⟩ ⟨s, rfl⟩
  exact ⟨r + s, (EReal.coe_add r s).symm⟩

/-- A product of two reals is real. -/
theorem isReal_mul {a b : EReal} : IsReal a → IsReal b → IsReal (a * b) := by
  rintro ⟨r, rfl⟩ ⟨s, rfl⟩
  exact ⟨r * s, (EReal.coe_mul r s).symm⟩

/-- A real clipped below at zero is real. -/
theorem isReal_clip {a : EReal} : IsReal a → IsReal (max a 0) := by
  intro h
  rcases max_choice a 0 with h' | h'
  · rwa [h']
  · rw [h']; exact ⟨0, EReal.coe_zero.symm⟩

/-- The network has a real value at real inputs. -/
theorem isReal_network (x : δ → EReal) (w1 : δ → κ → EReal) (b1 w2 : κ → EReal) (b2 : EReal) (hx : ∀ d, IsReal (x d))
    (h1 : ∀ d k, IsReal (w1 d k)) (hb1 : ∀ k, IsReal (b1 k)) (h2 : ∀ k, IsReal (w2 k)) (hb2 : IsReal b2) :
    IsReal (network x w1 b1 w2 b2) :=
  isReal_add (isReal_sum _ _ fun k => isReal_mul (isReal_clip (isReal_add
    (isReal_sum _ _ fun d => isReal_mul (hx d) (h1 d k)) (hb1 k))) (h2 k)) hb2

end Cert.Readout

end
-- ==== Proof.Sweep.lean ====
/-
  The sweep over the grid: after each point the three carried buffers hold, for every segment, the highest score, the
  mass and the weighted mass of the segment's nodes seen so far; so the last point writes out the weighted mean.
-/
module

public import proofs.«01_k».proof.Proof.Block
public import proofs.«01_k».proof.Proof.Input
public import proofs.«01_k».proof.Proof.Network

@[expose] public section

set_option maxRecDepth 16384

noncomputable section

namespace Cert.KernelIdeal.Readout

open Cert.KernelIdeal Cert.KernelIdeal.Gen Cert.Readout Idealize.ShloMosaic Idealize.ShloMosaic.TcCoe
open Idealize.ShloMosaic.ValueIdx

variable (m : (ℓ : Loc nD τ sig) → Buf (Elt Ideal) ℓ) (c : Dev nD)

/-- Whether a node belongs to a segment: its batch word is the segment's number. -/
def belongs (g : Fin 64) (n : Fin 100000) : Prop :=
  (m ((c : Thread nD τ).loc main_arg1) : S100000.Idx → BitVec 32) (ix1 n) = BitVec.ofNat 32 g.val

instance (g : Fin 64) (n : Fin 100000) : Decidable (belongs m c g n) := by unfold belongs; infer_instance

/-- The nodes of a segment among the first `k` blocks. -/
def seen (k : Nat) (g : Fin 64) : Finset (Fin 100000) := Finset.univ.filter fun n => n.val < 10000 * k ∧ belongs m c g n

/-- Different rows of a block are different nodes. -/
theorem node_injective (t : Fin cfg0.N) : Function.Injective (node t) := fun r r' h => by
  have := congrArg Fin.val h
  simp only [node] at this
  exact Fin.ext (by omega)

/-- The nodes of a segment in the block of point `t`. -/
def arriving (t : Fin cfg0.N) (g : Fin 64) : Finset (Fin 100000) :=
  (Finset.univ.filter fun r : Fin 10000 => belongs m c g (node t r)).map ⟨node t, node_injective t⟩

/-- Nothing is seen before the first block. -/
theorem seen_zero (g : Fin 64) : seen m c 0 g = ∅ := by
  unfold seen
  exact Finset.filter_false_of_mem fun n _ h => by omega

/-- A block's nodes are not among those seen before it. -/
theorem seen_disjoint (t : Fin cfg0.N) (g : Fin 64) : Disjoint (seen m c t.val g) (arriving m c t g) := by
  rw [Finset.disjoint_left]
  intro n hn hn'
  obtain ⟨r, -, rfl⟩ := Finset.mem_map.mp hn'
  have h := (Finset.mem_filter.mp hn).2.1
  simp only [Function.Embedding.coeFn_mk, node] at h
  omega

/-- After a block the nodes seen are those seen before it and its own. -/
theorem seen_succ (t : Fin cfg0.N) (g : Fin 64) : seen m c (t.val + 1) g = seen m c t.val g ∪ arriving m c t g := by
  ext n
  simp only [seen, arriving, Finset.mem_union, Finset.mem_filter, Finset.mem_univ, true_and, Finset.mem_map,
    Function.Embedding.coeFn_mk]
  constructor
  · rintro ⟨h, hb⟩
    by_cases hlt : n.val < 10000 * t.val
    · exact .inl ⟨hlt, hb⟩
    · have hr : n = node t ⟨n.val - 10000 * t.val, by omega⟩ := Fin.ext (by simp only [node]; omega)
      exact .inr ⟨_, hr ▸ hb, hr.symm⟩
  · rintro (⟨h, hb⟩ | ⟨r, hb, rfl⟩)
    · exact ⟨by omega, hb⟩
    · exact ⟨by simp only [node]; omega, hb⟩

/-- After the last block every node of the segment has been seen. -/
theorem seen_all (g : Fin 64) : seen m c 10 g = Finset.univ.filter fun n => belongs m c g n := by
  unfold seen
  exact Finset.filter_congr fun n _ => ⟨fun h => h.2, fun h => ⟨by have := n.isLt; omega, h⟩⟩

/-- A feature of a node. -/
def feature (n : Fin 100000) (d : Fin 128) : EReal := m ((c : Thread nD τ).loc main_arg0) (ix2 n d)
/-- A hidden weight. -/
def hiddenWeight (d : Fin 128) (k : Fin 64) : EReal := m ((c : Thread nD τ).loc main_arg2) (ix2 d k)
/-- A hidden bias. -/
def hiddenBias (k : Fin 64) : EReal := m ((c : Thread nD τ).loc main_arg3) (ix1 k)
/-- An output weight. -/
def outWeight (k : Fin 64) : EReal := m ((c : Thread nD τ).loc main_arg4) (ix2 k (0 : Fin 1))
/-- The output bias. -/
def outBias : EReal := m ((c : Thread nD τ).loc main_arg5) (ix1 (0 : Fin 1))

/-- The score of a node: the two-layer network on its features. -/
def score (n : Fin 100000) : EReal :=
  network (feature m c n) (hiddenWeight m c) (hiddenBias m c) (outWeight m c) (outBias m c)

/-- A row of a block is scored as its node. -/
theorem rowScore_eq (t : Fin cfg0.N) (r : Fin 10000) :
    rowScore (iblk m c 0 t) (iblk m c 2 t) (iblk m c 3 t) (iblk m c 4 t) (iblk m c 5 t) r = score m c (node t r) := by
  unfold rowScore score network feature hiddenWeight hiddenBias outWeight outBias
  refine congrArg₂ (HAdd.hAdd (α := EReal)) (Finset.sum_congr rfl fun k _ => ?_) (b2_at m c t)
  refine congrArg₂ (HMul.hMul (α := EReal)) (congrArg (max · (0 : EReal)) (congrArg₂ (HAdd.hAdd (α := EReal)) (Finset.sum_congr rfl fun d _ => ?_) (b1_at m c t k))) (w2_at m c t k)
  exact congrArg₂ (HMul.hMul (α := EReal)) (features_at m c t r d) (w1_at m c t d k)

/-- A row of a block is in a segment exactly when its node is. -/
theorem row_belongs (t : Fin cfg0.N) (r : Fin 10000) (g : Fin 64) :
    (iblk m c 1 t (ix2 r (0 : Fin 1)) = BitVec.ofNat 32 g.val) ↔ belongs m c g (node t r) := by
  unfold belongs
  rw [batch_at m c t r]

/-- Adding up over the rows of a block what member rows contribute is adding up over the block's nodes of the segment. -/
theorem sum_rows (t : Fin cfg0.N) (g : Fin 64) (f : Fin 100000 → EReal) :
    (∑ r : Fin 10000, if belongs m c g (node t r) then f (node t r) else 0) = ∑ n ∈ arriving m c t g, f n := by
  unfold arriving
  rw [Finset.sum_map, Finset.sum_filter]
  rfl

/-- The largest of what member rows of a block hold is the largest over the block's nodes of the segment. -/
theorem max_rows (t : Fin cfg0.N) (g : Fin 64) (f : Fin 100000 → EReal) :
    ((Finset.univ : Finset (Fin 10000)).fold max ⊥ fun r => if belongs m c g (node t r) then f (node t r) else ⊥)
      = (arriving m c t g).sup f := by
  show (Finset.univ : Finset (Fin 10000)).sup (fun r => if belongs m c g (node t r) then f (node t r) else ⊥) = _
  unfold arriving
  rw [Finset.sup_map, Finset.sup_ite]
  simp only [Finset.sup_bot, sup_bot_eq]
  rfl

variable (σ : Fin 100000 → ℝ) (x : Fin 100000 → Fin 128 → ℝ)

/-- What the carried buffers hold once `k` blocks have been seen. -/
structure Holds (k : Nat) (M S : Vec Ideal S1x64 .f32) (A : Vec Ideal S128x64 .f32) : Prop where
  /-- the highest score of each segment -/
  top_eq : ∀ g : Fin 64, M (ix2 0 g) = top σ (seen m c k g)
  /-- its mass -/
  mass_eq : ∀ g : Fin 64, S (ix2 0 g) = mass σ (fun _ => 1) (seen m c k g) (top σ (seen m c k g))
  /-- its weighted mass, a feature at a time -/
  acc_eq : ∀ (d : Fin 128) (g : Fin 64), A (ix2 d g) = mass σ (fun n => x n d) (seen m c k g) (top σ (seen m c k g))

/-- It holds of the initial contents, before any block. -/
theorem holds_init : Holds m c σ x 0 (k0_pay7 (F := Ideal)) (k0_pay8 (F := Ideal)) (k0_pay9 (F := Ideal)) where
  top_eq g := by rw [initTop_at, seen_zero, top_empty]
  mass_eq g := by rw [initMass_at, seen_zero, mass_empty]
  acc_eq d g := by rw [initAcc_at, seen_zero, mass_empty]

/-- A block takes it from what was seen before to what has been seen after. -/
theorem holds_step (hσ : ∀ n, score m c n = (σ n : EReal))
    (hx : ∀ n d, feature m c n d = (x n d : EReal))
    (t : Fin cfg0.N) (M S : Vec Ideal S1x64 .f32) (A : Vec Ideal S128x64 .f32) (h : Holds m c σ x t.val M S A) :
    Holds m c σ x (t.val + 1)
      (nextTop (F := Ideal) (iblk m c 0 t) (iblk m c 1 t) (iblk m c 2 t) (iblk m c 3 t) (iblk m c 4 t) (iblk m c 5 t) M)
      (nextMass (F := Ideal) (iblk m c 0 t) (iblk m c 1 t) (iblk m c 2 t) (iblk m c 3 t) (iblk m c 4 t) (iblk m c 5 t) M S)
      (nextAcc (F := Ideal) (iblk m c 0 t) (iblk m c 1 t) (iblk m c 2 t) (iblk m c 3 t) (iblk m c 4 t) (iblk m c 5 t) M A) := by
  have ht : ∀ g : Fin 64, nextTop (F := Ideal) (iblk m c 0 t) (iblk m c 1 t) (iblk m c 2 t) (iblk m c 3 t) (iblk m c 4 t)
      (iblk m c 5 t) M (ix2 0 g) = top σ (seen m c (t.val + 1) g) := fun g => by
    rw [nextTop_at, h.top_eq g, seen_succ, top_union]
    refine congrArg (max _) (Eq.trans ?_ (max_rows m c t g fun n => (σ n : EReal)))
    refine congrArg (Finset.fold max ⊥ · Finset.univ) (funext fun r => ?_)
    rw [rowScore_eq m c t r, hσ]
    exact if_congr (row_belongs m c t r g) rfl rfl
  refine ⟨ht, fun g => ?_, fun d g => ?_⟩
  · rw [nextMass_at, ht g, h.mass_eq g, h.top_eq g, seen_succ, ← mass_step σ (fun _ => 1) (seen_disjoint m c t g)]
    refine congrArg (HAdd.hAdd _) (Eq.trans ?_ (sum_rows m c t g fun n => ((1 : ℝ) : EReal) * Ideal.exp ((σ n : EReal) - _)))
    refine Finset.sum_congr rfl fun r _ => ?_
    rw [rowScore_eq m c t r, hσ, EReal.coe_one, one_mul]
    exact if_congr (row_belongs m c t r g) rfl rfl
  · rw [nextAcc_at, ht g, h.acc_eq d g, h.top_eq g, seen_succ, ← mass_step σ (fun n => x n d) (seen_disjoint m c t g)]
    refine congrArg (HAdd.hAdd _) (Eq.trans ?_ (sum_rows m c t g fun n => (x n d : EReal) * Ideal.exp ((σ n : EReal) - _)))
    refine Finset.sum_congr rfl fun r _ => ?_
    rw [rowScore_eq m c t r, hσ, show iblk m c 0 t (ix2 r d) = (x (node t r) d : EReal) from (features_at m c t r d).trans (hx _ _)]
    rw [mul_ite, mul_zero]
    exact if_congr (row_belongs m c t r g) rfl rfl

/-- The carried buffers hold it after every point. -/
theorem holds_after (hσ : ∀ n, score m c n = (σ n : EReal))
    (hx : ∀ n d, feature m c n d = (x n d : EReal)) :
    ∀ (n : Nat) (h : n < cfg0.N), Holds m c σ x (n + 1) (outsAt0 m c n h).2.1 (outsAt0 m c n h).2.2.1 (outsAt0 m c n h).2.2.2
  | 0, h => by
    rw [outsAt0_A m c ⟨0, h⟩ rfl (by simp)]
    dsimp only
    rw [top_A, mass_A, acc_A]
    exact holds_step m c σ x hσ hx ⟨0, h⟩ _ _ _ (holds_init m c σ x)
  | n + 1, h => by
    have hN : cfg0.N = 10 := N_0
    have h0 : ¬(⟨n + 1, h⟩ : Fin cfg0.N).val % 10 = 0 := by dsimp only; omega
    have ih := holds_after hσ hx n (Nat.lt_of_succ_lt h)
    by_cases h1 : (⟨n + 1, h⟩ : Fin cfg0.N).val % 10 = 9
    · rw [outsAt0_C m c ⟨n + 1, h⟩ h0 h1]
      dsimp only
      rw [top_C, mass_C, acc_C]
      exact holds_step m c σ x hσ hx ⟨n + 1, h⟩ _ _ _ ih
    · rw [outsAt0_B m c ⟨n + 1, h⟩ h0 h1]
      dsimp only
      rw [top_B, mass_B, acc_B]
      exact holds_step m c σ x hσ hx ⟨n + 1, h⟩ _ _ _ ih

/-- What the last point writes out: the weighted mass of each segment over its mass, zero for a segment with no node. -/
theorem written_at (hσ : ∀ n, score m c n = (σ n : EReal))
    (hx : ∀ n d, feature m c n d = (x n d : EReal))
    (h : 9 < cfg0.N) (d : Fin 128) (g : Fin 64) :
    (outsAt0 m c 9 h).1 (ix2 d g)
      = if 0 < mass σ (fun _ => 1) (Finset.univ.filter fun n => belongs m c g n) (top σ (Finset.univ.filter fun n => belongs m c g n))
        then Ideal.div (mass σ (fun n => x n d) (Finset.univ.filter fun n => belongs m c g n) (top σ (Finset.univ.filter fun n => belongs m c g n)))
          (mass σ (fun _ => 1) (Finset.univ.filter fun n => belongs m c g n) (top σ (Finset.univ.filter fun n => belongs m c g n)))
        else 0 := by
  have ha := holds_after m c σ x hσ hx 9 h
  have hC := outsAt0_C m c ⟨9, h⟩ (by simp) rfl
  have hout : (outsAt0 m c 9 h).1 = k0_pay6 (F := Ideal) (outsAt0 m c 9 h).2.2.1 (outsAt0 m c 9 h).2.2.2 := by
    rw [hC]
    dsimp only
    rw [out_C, mass_C, acc_C]
  rw [hout, quotient_at, ha.mass_eq g, ha.acc_eq d g, seen_all]

end Cert.KernelIdeal.Readout

end
-- ==== Proof.Result.lean ====
/-
  From the last point to the kernel's result: the output window's array is what the last point wrote out, and the result
  is its transpose.
-/
module

public import proofs.«01_k».proof.Proof.Sweep
public import Idealize.ShloMosaic.Lib.StableHlo.Run

@[expose] public section

set_option maxRecDepth 16384

noncomputable section

namespace Cert.KernelIdeal.Readout

open Cert.KernelIdeal Cert.KernelIdeal.Gen Cert.Readout Idealize.ShloMosaic Idealize.ShloMosaic.TcCoe Idealize.SL.Sem
open Idealize.ShloMosaic.ValueIdx Idealize.ShloMosaic.Tactic

variable (m : (ℓ : Loc nD τ sig) → Buf (Elt Ideal) ℓ) (ρ : Dev nD → PrngReg) (c : Dev nD)

/-- The last point of the grid. -/
def last : Fin cfg0.N := ⟨9, by rw [show cfg0.N = 10 from N_0]; decide⟩

/-- What the last point wrote out, as contents of the output window's array. -/
def written : Buf (Elt Ideal) ((c : Thread nD τ).loc main_v3) := (outsAt0 m c 9 last.isLt).1

/-- The output window never moves. -/
theorem index_out : win0_6.index last 0 = 0 ∧ win0_6.index last 1 = 0 := by decide +kernel

/-- The output window's array is written back once, after the last point, and whole. -/
theorem flushed_out (t : Fin cfg0.N) (hf : (cfg0.win 6).flush t = true) :
    (dats m 0 c).flushed 6 t = ((cfg0.win 6).blk t).view.read (Elt Ideal) (written m c) := by
  have hN : cfg0.N = 10 := N_0
  have h9 : t.val = 9 := by have := (flush0_6 t).mp hf; have := t.isLt; omega
  obtain rfl : t = last := Fin.ext h9
  show (cfg0.win 6).cut (grid0.coords last) ((dats m 0 c).after 6 last) = _
  rw [after0_6]
  have hz : (fun a => win0_6.index last a * main_v3.ty.shape.size a) = fun _ => 0 := funext fun a => by
    match a with
    | ⟨0, _⟩ => show win0_6.index last 0 * 128 = 0; rw [index_out.1]
    | ⟨1, _⟩ => show win0_6.index last 1 * 64 = 0; rw [index_out.2]
  exact (Memref.read_access_unit_zero (Elt Ideal) main_v3 hz (fun a => by rw [congrFun hz a]; simp) (written m c)).symm

/-- So it ends holding what the last point wrote out. -/
theorem array_out : (dats m 0 c).arrAt 6 cfg0.N = written m c :=
  (dats m 0 c).arrAt_eq_of_cover 6 (written m c) (flushed_out m c) fun i =>
    ⟨last, (flush0_6 last).mpr rfl, by
      show i ∈ ((View.whole main_v3).slice (win0_6.rect last)).set
      rw [View.set_slice_whole, Rect.mem_set_unit]
      intro a
      have h0 : (i 0 : Nat) < 128 := (i 0).isLt
      have h1 : (i 1 : Nat) < 64 := (i 1).isLt
      match a with
      | ⟨0, _⟩ =>
        show win0_6.index last 0 * 128 ≤ (i 0 : Nat) ∧ (i 0 : Nat) < win0_6.index last 0 * 128 + 128
        rw [index_out.1]; omega
      | ⟨1, _⟩ =>
        show win0_6.index last 1 * 64 ≤ (i 1 : Nat) ∧ (i 1 : Nat) < win0_6.index last 1 * 64 + 64
        rw [index_out.2]; omega⟩

/-- The kernel's result: the transpose of what the last point wrote out. -/
def result : Buf (Elt Ideal) ((c : Thread nD τ).loc main_v4) :=
  transpose S64x128 [1, 0] (written m c) transposes_S128x64_S64x128_1_0

/-- The windows' arrays are different buffers. -/
theorem arrays_distinct : Function.Injective (Pipeline.arrRef spec0) := by decide

/-- After the region the result buffer holds the transpose of the output window's array. -/
theorem tail_result : Pipeline.afterTail₀ cfgs (dats m) 0 (V0 m) [hostOps1] c main_v4 = result m c := by
  unfold Pipeline.afterTail₀ result
  simp only [hostOps1, List.flatten_cons, List.flatten_nil, List.append_nil]
  after_results_simp
  have h : Pipeline.withArrays (cfgs 0).spec c (V0 m c) (fun w => (dats m 0 c).arrAt w cfg0.N) (Proc.devRef .tc main_v3) = written m c :=
    (Pipeline.withArrays_arr (cfgs 0).spec arrays_distinct c (V0 m c) (fun w => (dats m 0 c).arrAt w cfg0.N) 6).trans (array_out m c)
  exact congrArg (fun a => transpose S64x128 [1, 0] a transposes_S128x64_S64x128_1_0) h

/-- Every run of the kernel ends with its result there and its arguments as they were. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.2 c).2 main_v4 (Pipeline.mem_restRefs_of main_v4 (by decide) (by decide))).trans
      (tail_result m c), h.1 c⟩)
    (θ_run_and (unchanged m ρ) (run_main m ρ))

/-- The result at a segment and a feature. -/
theorem result_at (σ : Fin 100000 → ℝ) (x : Fin 100000 → Fin 128 → ℝ) (hσ : ∀ n, score m c n = (σ n : EReal))
    (hx : ∀ n d, feature m c n d = (x n d : EReal)) (g : Fin 64) (d : Fin 128) :
    result m c (ix2 g d)
      = if 0 < mass σ (fun _ => 1) (Finset.univ.filter fun n => belongs m c g n) (top σ (Finset.univ.filter fun n => belongs m c g n))
        then Ideal.div (mass σ (fun n => x n d) (Finset.univ.filter fun n => belongs m c g n) (top σ (Finset.univ.filter fun n => belongs m c g n)))
          (mass σ (fun _ => 1) (Finset.univ.filter fun n => belongs m c g n) (top σ (Finset.univ.filter fun n => belongs m c g n)))
        else 0 := by
  refine Eq.trans ?_ (written_at m c σ x hσ hx last.isLt d g)
  show transpose S64x128 [1, 0] (written m c) transposes_S128x64_S64x128_1_0 (ix2 g d) = written m c (ix2 d g)
  refine transpose_apply _ _ _ _ _ fun a => ?_
  match a with
  | ⟨0, _⟩ => rfl
  | ⟨1, _⟩ => rfl

end Cert.KernelIdeal.Readout

end
-- ==== Proof.RefOps.lean ====
/-
  The reference's moves between nodes and segments, read at an index: a value per node collected at its segment, a row per
  node collected at its segment, and a segment's value fetched for a node.
-/
module

public import proofs.«01_k».proof.Proof.Gen.ReferenceIdeal
public import proofs.«01_k».proof.Proof.Layout
public import proofs.«01_k».proof.Proof.Network
public import Idealize.ShloMosaic.Lib.Routing.OpsPair
public import Idealize.ShloMosaic.Lib.Pipeline.Value
public import Idealize.ShloMosaic.Lib.IdealHost
public import Idealize.ShloMosaic.Lib.KernelVsHost

@[expose] public section

set_option maxRecDepth 16384

noncomputable section

namespace Cert.ReferenceIdeal.Readout

open Cert.ReferenceIdeal Cert.ReferenceIdeal.Gen Cert.Readout Idealize.ShloMosaic Idealize.ShloMosaic.ValueIdx
open Idealize.ShloMosaic.Routing

/-- A 32-bit word reads, signed, as a segment's number exactly when it is that number's word. -/
theorem toInt_eq_iff (b : BitVec 32) (g : Fin 64) : b.toInt = (g.val : ℤ) ↔ b = BitVec.ofNat 32 g.val := by
  have hg := g.isLt
  have hw : (BitVec.ofNat 32 g.val).toInt = (g.val : ℤ) := by
    rw [BitVec.toInt_eq_toNat_of_lt] <;> rw [BitVec.toNat_ofNat, Nat.mod_eq_of_lt (by omega)]
    omega
  exact ⟨fun h => BitVec.eq_of_toInt_eq (h.trans hw.symm), fun h => h ▸ hw⟩

/-- A node's value is collected at segment `g` exactly when the node's segment word is `g`'s. -/
theorem lands_value (idx : IVec S100000x1 32) (n : Fin 100000) (g : Fin 64) :
    scatter_S64_S100000x1_S100000_n_0_0_1.resultIdx? (ix1 n) idx = some (ix1 g)
      ↔ idx (ix2 n (0 : Fin 1)) = BitVec.ofNat 32 g.val := by
  have hm : (0 : Fin 1) ∈ scatter_S64_S100000x1_S100000_n_0_0_1.scatterDimsToOperandDims := List.mem_singleton.mpr rfl
  have hsi : scatter_S64_S100000x1_S100000_n_0_0_1.siIdx (ix1 n)
      ⟨List.idxOf (0 : Fin 1) scatter_S64_S100000x1_S100000_n_0_0_1.scatterDimsToOperandDims, List.idxOf_lt_length_iff.2 hm⟩
        = ix2 n (0 : Fin 1) := by
    funext b
    match b with
    | ⟨0, _⟩ => rfl
    | ⟨1, _⟩ => rfl
  have hs : scatter_S64_S100000x1_S100000_n_0_0_1.start (ix1 n) idx 0 = (idx (ix2 n (0 : Fin 1))).toInt := by
    unfold ScatterDims.start
    rw [dif_pos hm, hsi]
  have hw : scatter_S64_S100000x1_S100000_n_0_0_1.window (ix1 n) 0 = 0 := rfl
  rw [resultIdx?_ix1, hs, hw, ← toInt_eq_iff]
  simp

/-- Entry `d'` of a node's row is collected at entry `(g, d)` exactly when `d' = d` and the node's segment word is `g`'s. -/
theorem lands_row (idx : IVec S100000x1 32) (n : Fin 100000) (d' : Fin 128) (g : Fin 64) (d : Fin 128) :
    scatter_S64x128_S100000x1_S100000x128_1_0_0_1.resultIdx? (ix2 n d') idx = some (ix2 g d)
      ↔ idx (ix2 n (0 : Fin 1)) = BitVec.ofNat 32 g.val ∧ d' = d := by
  have hm : (0 : Fin 2) ∈ scatter_S64x128_S100000x1_S100000x128_1_0_0_1.scatterDimsToOperandDims := List.mem_singleton.mpr rfl
  have hsi : scatter_S64x128_S100000x1_S100000x128_1_0_0_1.siIdx (ix2 n d')
      ⟨List.idxOf (0 : Fin 2) scatter_S64x128_S100000x1_S100000x128_1_0_0_1.scatterDimsToOperandDims, List.idxOf_lt_length_iff.2 hm⟩
        = ix2 n (0 : Fin 1) := by
    funext b
    match b with
    | ⟨0, _⟩ => rfl
    | ⟨1, _⟩ => rfl
  have hs : scatter_S64x128_S100000x1_S100000x128_1_0_0_1.start (ix2 n d') idx 0 = (idx (ix2 n (0 : Fin 1))).toInt := by
    unfold ScatterDims.start
    rw [dif_pos hm, hsi]
  have hs1 : scatter_S64x128_S100000x1_S100000x128_1_0_0_1.start (ix2 n d') idx 1 = 0 := by
    unfold ScatterDims.start
    rw [dif_neg (by decide)]
  have hw : scatter_S64x128_S100000x1_S100000x128_1_0_0_1.window (ix2 n d') 0 = 0 := rfl
  have hw1 : scatter_S64x128_S100000x1_S100000x128_1_0_0_1.window (ix2 n d') 1 = d'.val := rfl
  rw [resultIdx?_ix2, hs, hs1, hw, hw1, ← toInt_eq_iff]
  simp [Fin.ext_iff]

/-- What is collected at segment `g` from nothing: the sum of the values of the segment's nodes. -/
theorem collect_value (x : FVec Ideal S64 .f32) (idx : IVec S100000x1 32) (u : FVec Ideal S100000 .f32) (g : Fin 64)
    (hx : x (ix1 g) = (0 : EReal)) :
    Host.scatterAdd scatter_S64_S100000x1_S100000_n_0_0_1 x idx u (ix1 g)
      = ∑ n ∈ Finset.univ.filter (fun n : Fin 100000 => idx (ix2 n (0 : Fin 1)) = BitVec.ofNat 32 g.val),
          (u (ix1 n) : EReal) := by
  show x (ix1 g) + ∑ j ∈ Finset.univ.filter (fun j => scatter_S64_S100000x1_S100000_n_0_0_1.resultIdx? j idx = some (ix1 g)), u j = _
  rw [hx]
  refine (zero_add (M := EReal) _).trans ?_
  symm
  refine Finset.sum_nbij (fun n : Fin 100000 => (ix1 n : S100000.Idx)) ?_ ?_ ?_ fun _ _ => rfl
  · intro n hn
    exact Finset.mem_filter.2 ⟨Finset.mem_univ _, (lands_value idx n g).2 (Finset.mem_filter.1 hn).2⟩
  · intro n _ n' _ h
    exact congrFun h 0
  · intro j hj
    obtain ⟨n, rfl⟩ : ∃ n : Fin 100000, j = ix1 n := ⟨j 0, eq_ix1 j⟩
    have hj' := (Finset.mem_filter.1 (Finset.mem_coe.1 hj)).2
    exact ⟨n, Finset.mem_coe.2 (Finset.mem_filter.2 ⟨Finset.mem_univ _, (lands_value idx n g).1 hj'⟩), rfl⟩

/-- What is collected at entry `(g, d)` from nothing: the sum of entries `d` of the rows of the segment's nodes. -/
theorem collect_row (x : FVec Ideal S64x128 .f32) (idx : IVec S100000x1 32) (u : FVec Ideal S100000x128 .f32) (g : Fin 64)
    (d : Fin 128) (hx : x (ix2 g d) = (0 : EReal)) :
    Host.scatterAdd scatter_S64x128_S100000x1_S100000x128_1_0_0_1 x idx u (ix2 g d)
      = ∑ n ∈ Finset.univ.filter (fun n : Fin 100000 => idx (ix2 n (0 : Fin 1)) = BitVec.ofNat 32 g.val),
          (u (ix2 n d) : EReal) := by
  show x (ix2 g d) + ∑ j ∈ Finset.univ.filter (fun j => scatter_S64x128_S100000x1_S100000x128_1_0_0_1.resultIdx? j idx = some (ix2 g d)), u j = _
  rw [hx]
  refine (zero_add (M := EReal) _).trans ?_
  symm
  refine Finset.sum_nbij (fun n : Fin 100000 => (ix2 n d : S100000x128.Idx)) ?_ ?_ ?_ fun _ _ => rfl
  · intro n hn
    exact Finset.mem_filter.2 ⟨Finset.mem_univ _, (lands_row idx n d g d).2 ⟨(Finset.mem_filter.1 hn).2, rfl⟩⟩
  · intro n _ n' _ h
    exact congrFun h 0
  · intro j hj
    obtain ⟨n, d', rfl⟩ : ∃ (n : Fin 100000) (d' : Fin 128), j = ix2 n d' := ⟨j 0, j 1, eq_ix2 j⟩
    obtain ⟨h, rfl⟩ := (lands_row idx n d' g d).1 (Finset.mem_filter.1 (Finset.mem_coe.1 hj)).2
    exact ⟨n, Finset.mem_coe.2 (Finset.mem_filter.2 ⟨Finset.mem_univ _, h⟩), rfl⟩

/-- The value fetched for a node whose start word is `g`'s is segment `g`'s. -/
theorem fetch_at (x : FVec Ideal S64 .f32) (idx : IVec S100000x1 32) (n : Fin 100000) (g : Fin 64)
    (h : idx (ix2 n (0 : Fin 1)) = BitVec.ofNat 32 g.val) :
    Host.gather gather_S64_S100000x1_S100000_n_0_n_n_0_1_1 x idx (ix1 n) = x (ix1 g) := by
  have hm : (0 : Fin 1) ∈ gather_S64_S100000x1_S100000_n_0_n_n_0_1_1.startIndexMap := List.mem_singleton.mpr rfl
  have hsi : gather_S64_S100000x1_S100000_n_0_n_n_0_1_1.siIdx (ix1 n)
      ⟨List.idxOf (0 : Fin 1) gather_S64_S100000x1_S100000_n_0_n_n_0_1_1.startIndexMap, List.idxOf_lt_length_iff.2 hm⟩
        = ix2 n (0 : Fin 1) := by
    funext b
    match b with
    | ⟨0, _⟩ => rfl
    | ⟨1, _⟩ => rfl
  have hs : gather_S64_S100000x1_S100000_n_0_n_n_0_1_1.start (ix1 n) idx 0 = g.val := by
    unfold GatherDims.start
    rw [dif_pos hm, hsi, (toInt_eq_iff _ g).2 h]
    show min g.val 63 = g.val
    have := g.isLt
    omega
  unfold Host.gather
  refine congrArg x (funext fun a => ?_)
  obtain rfl : a = 0 := Subsingleton.elim _ _
  refine Fin.ext ?_
  show gather_S64_S100000x1_S100000_n_0_n_n_0_1_1.start (ix1 n) idx 0
    + gather_S64_S100000x1_S100000_n_0_n_n_0_1_1.batchCoord (ix1 n) 0
    + gather_S64_S100000x1_S100000_n_0_n_n_0_1_1.offCoord (ix1 n) 0 = g.val
  rw [GatherDims.batchCoord_eq_zero _ _ _ List.not_mem_nil,
    GatherDims.offCoord_eq_zero _ _ _ (fun h => ((GatherDims.mem_sKept _ _).mp h).1 (List.mem_singleton.mpr rfl)), hs]
  rfl

/-- A negative segment word would be counted from the end; a segment's own word stays as it is. -/
theorem slot_word (b a : BitVec 32) (g : Fin 64) (h : b = BitVec.ofNat 32 g.val) :
    Scalar.select (IntOp.cmpi .slt b 0#32) a b = b := by
  refine wrap_of_lt b a ?_
  have := g.isLt
  rw [h, BitVec.toNat_ofNat, Nat.mod_eq_of_lt (by omega)]
  omega

end Cert.ReferenceIdeal.Readout
-- ==== Proof.RefStages.lean ====
/-
  The reference in stages, each an array computed from the arguments: the scores, the highest score of each segment, the
  level subtracted, the exponentials, their sums, the weights and the result; and what each holds at an index.
-/
module

public import proofs.«01_k».proof.Proof.RefOps
public import proofs.«01_k».proof.Proof.Softmax

@[expose] public section

set_option maxRecDepth 16384

noncomputable section

namespace Cert.ReferenceIdeal.Readout

open Cert.ReferenceIdeal Cert.ReferenceIdeal.Gen Cert.Readout Idealize.ShloMosaic Idealize.ShloMosaic.ValueIdx

variable (X : FVec Ideal S100000x128 .f32) (B : IVec S100000 32) (W1 : FVec Ideal S128x64 .f32) (b1 : FVec Ideal S64 .f32)
  (W2 : FVec Ideal S64x1 .f32) (b2 : FVec Ideal S1 .f32)

/-- One value per node set as a column. -/
abbrev column {α : Type} (x : S100000.Idx → α) : S100000x1.Idx → α :=
  broadcastInDim S100000x1 ![0] bcast_S100000_S100000x1_0 x

/-- The hidden layer. -/
def hidden : FVec Ideal S100000x64 .f32 :=
  maximumf (addf (Host.dotGeneral dot_S100000x128_S128x64_S100000x64_1_0_0_1_n_n none X W1)
      (broadcastInDim S100000x64 ![0, 1] bcast_S1x64_S100000x64_0_1 (broadcastInDim S1x64 ![1] bcast_S64_S1x64_1 b1)))
    (broadcastInDim S100000x64 ![] bcast_S_S100000x64 (constant S_ .f32 0x00000000#32))

/-- The scores. -/
def scores : FVec Ideal S100000 .f32 :=
  shapeCast _ (addf (Host.dotGeneral dot_S100000x64_S64x1_S100000x1_1_0_0_1_n_n none (hidden X W1 b1) W2)
    (broadcastInDim S100000x1 ![0, 1] bcast_S1x1_S100000x1_0_1 (broadcastInDim S1x1 ![1] bcast_S1_S1x1_1 b2)))
    shapeCasts_S100000x1_S100000

/-- Whether a node belongs to a segment. -/
def memberBits : IVec S100000x64 1 :=
  cmpi .eq (broadcastInDim S100000x64 ![0, 1] bcast_S100000x1_S100000x64_0_1 (column B))
    (broadcastInDim S100000x64 ![0, 1] bcast_S1x64_S100000x64_0_1 (broadcastInDim S1x64 ![1] bcast_S64_S1x64_1 (iotaInDim S64 32 0)))

/-- The highest score of each segment. -/
def highest (s : FVec Ideal S100000 .f32) : FVec Ideal S64 .f32 :=
  Host.reduce FloatOps.maximumf (select (memberBits B)
    (broadcastInDim S100000x64 ![0, 1] bcast_S100000x1_S100000x64_0_1 (column s))
    (broadcastInDim S100000x64 ![] bcast_S_S100000x64 (id (constant S_ .f32 0xFF800000#32))))
    (constant S_ .f32 0xFF800000#32) reducesTo_S100000x64_S64_d0 h_S_

/-- The level subtracted in each segment. -/
def level (t : FVec Ideal S64 .f32) : FVec Ideal S64 .f32 :=
  select (cmpf .olt (Host.absf t) (broadcastInDim S64 ![] bcast_S_S64 (constant S_ .f32 0x7F800000#32))) t
    (broadcastInDim S64 ![] bcast_S_S64 (id (constant S_ .f32 0x00000000#32)))

/-- Where a node reads its segment's value. -/
def slots : IVec S100000x1 32 :=
  column (select (cmpi .slt B (broadcastInDim S100000 ![] bcast_S_S100000 (constantI S_ 32 0#32)))
    (addi B (broadcastInDim S100000 ![] bcast_S_S100000 (constantI S_ 32 64#32))) B)

/-- The exponentials of the scores below their segments' levels. -/
def exps (s : FVec Ideal S100000 .f32) (M : FVec Ideal S64 .f32) : FVec Ideal S100000 .f32 :=
  Host.exp (subf s (Host.gather gather_S64_S100000x1_S100000_n_0_n_n_0_1_1 M (slots B)))

/-- The sums of the exponentials over each segment. -/
def sums (e : FVec Ideal S100000 .f32) : FVec Ideal S64 .f32 :=
  Host.scatterAdd scatter_S64_S100000x1_S100000_n_0_0_1
    (broadcastInDim S64 ![] bcast_S_S64 (constant S_ .f32 0x00000000#32)) (column B) e

/-- The weighted rows collected over each segment. -/
def collected (e : FVec Ideal S100000 .f32) (Z : FVec Ideal S64 .f32) : FVec Ideal S64x128 .f32 :=
  Host.scatterAdd scatter_S64x128_S100000x1_S100000x128_1_0_0_1
    (broadcastInDim S64x128 ![] bcast_S_S64x128 (constant S_ .f32 0x00000000#32)) (column B)
    (mulf X (broadcastInDim S100000x128 ![0, 1] bcast_S100000x1_S100000x128_0_1
      (column (Host.divf e (Host.gather gather_S64_S100000x1_S100000_n_0_n_n_0_1_1 Z (slots B))))))

/-- A column reads its node's value. -/
theorem column_at' {α : Type} (x : S100000.Idx → α) (n : Fin 100000) (z : Fin 1) : column x (ix2 n z) = x (ix1 n) :=
  broadcastInDim_apply _ _ x _ (ix1 n) fun a => by
    match a with
    | ⟨0, _⟩ => rfl

/-- A column spread over the segments reads its node's value. -/
theorem spread_at {α : Type} (x : S100000.Idx → α) (n : Fin 100000) (g : Fin 64) :
    broadcastInDim S100000x64 ![0, 1] bcast_S100000x1_S100000x64_0_1 (column x) (ix2 n g) = x (ix1 n) := by
  refine (broadcastInDim_apply _ _ (column x) _ (ix2 n (0 : Fin 1)) fun a => ?_).trans (column_at' x n 0)
  match a with
  | ⟨0, _⟩ => rfl
  | ⟨1, _⟩ => rfl

/-- A column spread over the features reads its node's value. -/
theorem spread_features_at {α : Type} (x : S100000.Idx → α) (n : Fin 100000) (d : Fin 128) :
    broadcastInDim S100000x128 ![0, 1] bcast_S100000x1_S100000x128_0_1 (column x) (ix2 n d) = x (ix1 n) := by
  refine (broadcastInDim_apply _ _ (column x) _ (ix2 n (0 : Fin 1)) fun a => ?_).trans (column_at' x n 0)
  match a with
  | ⟨0, _⟩ => rfl
  | ⟨1, _⟩ => rfl

/-- A row of 64 values spread over the nodes reads its column's value. -/
theorem spread_row_at {α : Type} (x : S64.Idx → α) (n : Fin 100000) (g : Fin 64) :
    broadcastInDim S100000x64 ![0, 1] bcast_S1x64_S100000x64_0_1 (broadcastInDim S1x64 ![1] bcast_S64_S1x64_1 x) (ix2 n g)
      = x (ix1 g) := by
  refine (broadcastInDim_apply _ _ _ _ (ix2 (0 : Fin 1) g) fun a => ?_).trans
    (broadcastInDim_apply _ _ x _ (ix1 g) fun a => ?_)
  · match a with
    | ⟨0, _⟩ => rfl
    | ⟨1, _⟩ => rfl
  · match a with
    | ⟨0, _⟩ => rfl

/-- The product of the features by the hidden weights at an entry. -/
theorem product_hidden_at (i : Fin 100000) (j : Fin 64) :
    Host.dotGeneral dot_S100000x128_S128x64_S100000x64_1_0_0_1_n_n none X W1 (ix2 i j)
      = ∑ k : Fin 128, (X (ix2 i k) : EReal) * W1 (ix2 k j) := by
  refine (Ideal.dotGeneral_apply _ _ _ _ _ _).trans ?_
  rw [← Equiv.sum_comp (contrEquiv1 dot_S100000x128_S128x64_S100000x64_1_0_0_1_n_n 128 rfl rfl).symm]
  refine Finset.sum_congr rfl fun k _ => ?_
  refine congrArg₂ (fun a b => (X a : EReal) * W1 b) (funext fun a => ?_) (funext fun a => ?_)
  · match a with
    | ⟨0, _⟩ => rfl
    | ⟨1, _⟩ => rfl
  · match a with
    | ⟨0, _⟩ => rfl
    | ⟨1, _⟩ => rfl

/-- The product of the hidden layer by the output weights at a node. -/
theorem product_score_at (H : FVec Ideal S100000x64 .f32) (i : Fin 100000) :
    Host.dotGeneral dot_S100000x64_S64x1_S100000x1_1_0_0_1_n_n none H W2 (ix2 i 0)
      = ∑ k : Fin 64, (H (ix2 i k) : EReal) * W2 (ix2 k (0 : Fin 1)) := by
  refine (Ideal.dotGeneral_apply _ _ _ _ _ _).trans ?_
  rw [← Equiv.sum_comp (contrEquiv1 dot_S100000x64_S64x1_S100000x1_1_0_0_1_n_n 64 rfl rfl).symm]
  refine Finset.sum_congr rfl fun k _ => ?_
  refine congrArg₂ (fun a b => (H a : EReal) * W2 b) (funext fun a => ?_) (funext fun a => ?_)
  · match a with
    | ⟨0, _⟩ => rfl
    | ⟨1, _⟩ => rfl
  · match a with
    | ⟨0, _⟩ => rfl
    | ⟨1, _⟩ => rfl

/-- A node's hidden entry: its weighted features plus the bias, clipped below at zero. -/
theorem hidden_at (n : Fin 100000) (k : Fin 64) :
    hidden X W1 b1 (ix2 n k) = max ((∑ d : Fin 128, (X (ix2 n d) : EReal) * W1 (ix2 d k)) + (b1 (ix1 k) : EReal)) 0 := by
  unfold hidden
  rw [maximumf_apply, addf_apply, product_hidden_at, spread_row_at, broadcastInDim_scalar_apply]
  have h0 : (constant (F := Ideal) S_ .f32 0x00000000#32 ix0 : EReal) = 0 := zero_word
  exact congrArg (max _) h0

/-- A node's score is the network on its features. -/
theorem scores_at (n : Fin 100000) :
    scores X W1 b1 W2 b2 (ix1 n) = network (fun d : Fin 128 => (X (ix2 n d) : EReal)) (fun d (k : Fin 64) => (W1 (ix2 d k) : EReal))
      (fun k => (b1 (ix1 k) : EReal)) (fun k => (W2 (ix2 k (0 : Fin 1)) : EReal)) (b2 (ix1 (0 : Fin 1)) : EReal) := by
  unfold scores network
  rw [flat_column_at, addf_apply, product_score_at]
  refine congrArg₂ (HAdd.hAdd (α := EReal)) (Finset.sum_congr rfl fun k _ => ?_) ?_
  · rw [hidden_at]
  · refine (broadcastInDim_apply _ _ _ _ (ix2 (0 : Fin 1) (0 : Fin 1)) fun a => ?_).trans
      (broadcastInDim_apply _ _ b2 _ (ix1 (0 : Fin 1)) fun a => ?_)
    · match a with
      | ⟨0, _⟩ => rfl
      | ⟨1, _⟩ => rfl
    · match a with
      | ⟨0, _⟩ => rfl

end Cert.ReferenceIdeal.Readout
-- ==== Proof.RefValue.lean ====
/-
  What the reference computes for real scores: entry `(g, d)` of its result is the sum, over the nodes of segment `g`, of
  the node's feature `d` times the node's exponential divided by the sum of the segment's exponentials.
-/
module

public import proofs.«01_k».proof.Proof.RefStages
public import proofs.«01_k».proof.Proof.Gen.ReferenceIdeal.Run

@[expose] public section

set_option maxRecDepth 16384

noncomputable section

namespace Cert.ReferenceIdeal.Readout

open Cert.ReferenceIdeal Cert.ReferenceIdeal.Gen Cert.Readout Idealize.ShloMosaic Idealize.ShloMosaic.ValueIdx
open Idealize.ShloMosaic.TcCoe Idealize.SL.Sem

section Stages

variable (X : FVec Ideal S100000x128 .f32) (B : IVec S100000 32)

/-- The nodes whose segment word is `g`'s. -/
def nodes (g : Fin 64) : Finset (Fin 100000) := Finset.univ.filter fun n => B (ix1 n) = BitVec.ofNat 32 g.val

/-- The level subtracted in a segment of nodes `S`: its highest score when that is a real number, zero otherwise. -/
def shift (σ : Fin 100000 → ℝ) (S : Finset (Fin 100000)) : EReal := if max (top σ S) (-top σ S) < ⊤ then top σ S else 0

/-- A membership bit is set exactly when the node's segment word is the segment's. -/
theorem memberBits_at (n : Fin 100000) (g : Fin 64) :
    memberBits B (ix2 n g) = BitVec.ofBool (decide (B (ix1 n) = BitVec.ofNat 32 g.val)) := by
  unfold memberBits
  show IntOp.cmpi .eq (broadcastInDim S100000x64 _ _ (column B) (ix2 n g)) (broadcastInDim S100000x64 _ _ _ (ix2 n g)) = _
  rw [spread_at, spread_row_at, iotaInDim_apply]
  rfl

/-- The maximum down the columns of an array, from negative infinity. -/
theorem columns_max_at {k l : ℕ} {u : Shape} (x : FVec Ideal (⟨2, ![k, l]⟩ : Shape) .f32)
    (h : (⟨2, ![k, l]⟩ : Shape).ReducesTo [0] (⟨1, ![l]⟩ : Shape)) (hr : (⟨2, ![k, l]⟩ : Shape).Reduces [0] (⟨1, ![l]⟩ : Shape))
    (hu : 0 < u.numel) (g : Fin l) :
    Host.reduce FloatOps.maximumf x (constant u .f32 0xFF800000#32) h hu (ix1 g)
      = (Finset.univ : Finset (Fin k)).sup fun n => (x (ix2 n g) : EReal) := by
  refine (congrFun (hostReduce_maximumf_eq_multiReduction x 0xFF800000#32 h hu hr (Or.inl rfl) rfl) (ix1 g)).trans ?_
  refine (Ideal.multiReduction_maximumf_single _ _ _ _ _ _).trans ?_
  have hb : (FloatOps.ofBits .f32 0xFF800000#32 : Ideal .f32) = ⊥ := negInf_word
  rw [hb]
  refine congrArg (Finset.fold max ⊥ · Finset.univ) (funext fun (n : Fin k) => ?_)
  have hl : hr.lift (ix1 g) n = ix2 n g := lift_row _ g n
  show x (hr.lift (ix1 g) n) = _
  rw [hl]

/-- The highest score of a segment. -/
theorem highest_at (s : FVec Ideal S100000 .f32) (σ : Fin 100000 → ℝ) (hσ : ∀ n, s (ix1 n) = (σ n : EReal)) (g : Fin 64) :
    highest B s (ix1 g) = top σ (nodes B g) := by
  unfold highest
  have hr : S100000x64.Reduces [0] S64 := by decide
  refine (columns_max_at _ _ hr _ g).trans ?_
  have hterm : ∀ n : Fin 100000, (select (memberBits B)
      (broadcastInDim S100000x64 ![0, 1] bcast_S100000x1_S100000x64_0_1 (column s))
      (broadcastInDim S100000x64 ![] bcast_S_S100000x64 (id (constant S_ .f32 0xFF800000#32)))) (ix2 n g)
        = if B (ix1 n) = BitVec.ofNat 32 g.val then (σ n : EReal) else ⊥ := by
    intro n
    rw [select_apply, memberBits_at, select_ofBool, spread_at, broadcastInDim_scalar_apply, hσ]
    have hc : (id (constant (F := Ideal) S_ .f32 0xFF800000#32) ix0 : EReal) = ⊥ := negInf_word
    exact congrArg (fun z : EReal => if B (ix1 n) = BitVec.ofNat 32 g.val then (σ n : EReal) else z) hc
  refine (Finset.sup_congr rfl fun n _ => hterm n).trans ?_
  rw [Finset.sup_ite]
  simp only [Finset.sup_bot, sup_bot_eq]
  rfl

/-- The level subtracted in a segment. -/
theorem level_at (t : FVec Ideal S64 .f32) (σ : Fin 100000 → ℝ) (S : Finset (Fin 100000)) (g : Fin 64)
    (h : t (ix1 g) = top σ S) : level t (ix1 g) = shift σ S := by
  unfold level shift
  rw [select_apply, cmpf_apply, broadcastInDim_scalar_apply, broadcastInDim_scalar_apply]
  have ht : (constant (F := Ideal) S_ .f32 0x7F800000#32 ix0 : EReal) = ⊤ := posInf_word
  have hz : (id (constant (F := Ideal) S_ .f32 0x00000000#32) ix0 : EReal) = 0 := zero_word
  rw [← h]
  refine (select_ofBool (max (t (ix1 g) : EReal) (-(t (ix1 g) : EReal)) < constant (F := Ideal) S_ .f32 0x7F800000#32 ix0)
    (t (ix1 g) : EReal) (id (constant (F := Ideal) S_ .f32 0x00000000#32) ix0)).trans ?_
  rw [ht, hz]

/-- A node of segment `g` reads `g`'s value. -/
theorem slots_at (n : Fin 100000) (g : Fin 64) (h : B (ix1 n) = BitVec.ofNat 32 g.val) :
    slots B (ix2 n (0 : Fin 1)) = BitVec.ofNat 32 g.val := by
  unfold slots
  rw [column_at', select_apply]
  exact (slot_word (B (ix1 n)) _ g h).trans h

/-- The exponential of a node of segment `g`. -/
theorem exps_at (s : FVec Ideal S100000 .f32) (M : FVec Ideal S64 .f32) (n : Fin 100000) (g : Fin 64)
    (h : B (ix1 n) = BitVec.ofNat 32 g.val) :
    exps B s M (ix1 n) = Ideal.exp ((s (ix1 n) : EReal) - (M (ix1 g) : EReal)) := by
  unfold exps
  show Ideal.exp ((s (ix1 n) : EReal) - (Host.gather gather_S64_S100000x1_S100000_n_0_n_n_0_1_1 M (slots B) (ix1 n) : EReal)) = _
  rw [fetch_at M (slots B) n g (slots_at B n g h)]

/-- The sum of the exponentials of segment `g`. -/
theorem sums_at (e : FVec Ideal S100000 .f32) (g : Fin 64) : sums B e (ix1 g) = ∑ n ∈ nodes B g, (e (ix1 n) : EReal) := by
  unfold sums
  refine (collect_value _ _ e g ?_).trans (Finset.sum_congr (Finset.filter_congr fun n _ => ?_) fun _ _ => rfl)
  · rw [broadcastInDim_scalar_apply]
    exact zero_word
  · rw [column_at']

/-- The weighted rows collected at entry `(g, d)`. -/
theorem collected_at (e : FVec Ideal S100000 .f32) (Z : FVec Ideal S64 .f32) (g : Fin 64) (d : Fin 128) :
    collected X B e Z (ix2 g d)
      = ∑ n ∈ nodes B g, (X (ix2 n d) : EReal) * Ideal.div (e (ix1 n) : EReal) (Z (ix1 g) : EReal) := by
  unfold collected
  refine (collect_row _ _ _ g d ?_).trans (Finset.sum_congr (Finset.filter_congr fun n _ => ?_) fun n hn => ?_)
  · rw [broadcastInDim_scalar_apply]
    exact zero_word
  · rw [column_at']
  · rw [mulf_apply, spread_features_at]
    refine congrArg (HMul.hMul (α := EReal) (X (ix2 n d))) ?_
    show Ideal.div (e (ix1 n) : EReal) (Host.gather gather_S64_S100000x1_S100000_n_0_n_n_0_1_1 Z (slots B) (ix1 n) : EReal) = _
    rw [fetch_at Z (slots B) n g (slots_at B n g (Finset.mem_filter.1 hn).2)]

/-- The stages together, for real scores. -/
theorem stages_at (s : FVec Ideal S100000 .f32) (σ : Fin 100000 → ℝ) (hσ : ∀ n, s (ix1 n) = (σ n : EReal)) (g : Fin 64)
    (d : Fin 128) :
    collected X B (exps B s (level (highest B s))) (sums B (exps B s (level (highest B s)))) (ix2 g d)
      = ∑ n ∈ nodes B g, (X (ix2 n d) : EReal) * Ideal.div (Ideal.exp ((σ n : EReal) - shift σ (nodes B g)))
          (∑ k ∈ nodes B g, Ideal.exp ((σ k : EReal) - shift σ (nodes B g))) := by
  have he : ∀ n ∈ nodes B g, exps B s (level (highest B s)) (ix1 n) = Ideal.exp ((σ n : EReal) - shift σ (nodes B g)) := by
    intro n hn
    rw [exps_at B s _ n g (Finset.mem_filter.1 hn).2, hσ, level_at _ σ (nodes B g) g (highest_at B s σ hσ g)]
  rw [collected_at, sums_at]
  refine Finset.sum_congr rfl fun n hn => ?_
  rw [he n hn, Finset.sum_congr rfl he]

end Stages

variable (m : (ℓ : Loc nD τ sig) → Buf (Elt Ideal) ℓ) (c : Dev nD)

/-- The reference's scores, of the arguments in memory. -/
def scoresOf : FVec Ideal S100000 .f32 :=
  scores (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))

/-- The reference's result is its stages composed. -/
theorem result_stages :
    Cert.ReferenceIdeal.Value.res_out0 m c
      = collected (m ((c.tc : Thread nD τ).loc main_arg0)) (m ((c.tc : Thread nD τ).loc main_arg1))
          (exps (m ((c.tc : Thread nD τ).loc main_arg1)) (scoresOf m c)
            (level (highest (m ((c.tc : Thread nD τ).loc main_arg1)) (scoresOf m c))))
          (sums (m ((c.tc : Thread nD τ).loc main_arg1)) (exps (m ((c.tc : Thread nD τ).loc main_arg1)) (scoresOf m c)
            (level (highest (m ((c.tc : Thread nD τ).loc main_arg1)) (scoresOf m c))))) := by
  unfold Cert.ReferenceIdeal.Value.res_out0 Cert.ReferenceIdeal.Value.res_main_v49
  rfl

end Cert.ReferenceIdeal.Readout
-- ==== Proof.Finite.lean ====
/-
  What the precondition says: every entry of every float argument is a real number.
-/
module

public import proofs.«01_k».proof.Defs
public import proofs.«01_k».proof.Proof.Layout
public import proofs.«01_k».proof.Proof.Network
public import Idealize.ShloMosaic.Lib.ReduceAll
public import Idealize.ShloMosaic.Lib.IdealHost
public import Idealize.ShloMosaic.Lib.Pipeline.Value

@[expose] public section

set_option maxRecDepth 16384

noncomputable section

namespace Cert.Pre_finite_inputs.Readout

open Cert.Pre_finite_inputs Cert.Readout Idealize.ShloMosaic Idealize.ShloMosaic.ValueIdx

/-- The shape relations the precondition's operations take. -/
instance shapes : Cert.Pre_finite_inputs.Facts where
  bcast_S_S100000x128 := by decide
  reducesTo_S100000x128_S_d0_1 := by decide
  h_S_ := by decide
  bcast_S_S128x64 := by decide
  reducesTo_S128x64_S_d0_1 := by decide
  bcast_S_S64 := by decide
  reducesTo_S64_S_d0 := by decide
  bcast_S_S64x1 := by decide
  reducesTo_S64x1_S_d0_1 := by decide
  bcast_S_S1 := by decide
  reducesTo_S1_S_d0 := by decide

/-- An extended real whose absolute value is below infinity is a real number. -/
theorem isReal_of_abs_lt (a : EReal) (h : max a (-a) < ⊤) : IsReal a := by
  have h1 := (max_lt_iff.1 h).1
  have h2 := (max_lt_iff.1 h).2
  induction a with
  | bot => exact absurd h2 (by simp)
  | top => exact absurd h1 (by simp)
  | coe r => exact ⟨r, rfl⟩

/-- An entry whose comparison bit is set is a real number. -/
theorem isReal_of_bit {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : IsReal (x i) := by
  rw [cmpf_apply, broadcastInDim_scalar_apply] at h
  have ht : (constant (F := Ideal) S_ .f32 0x7F800000#32 ix0 : EReal) = ⊤ := posInf_word
  have h' : BitVec.ofBool (decide (max (x i : EReal) (-(x i : EReal)) < constant (F := Ideal) S_ .f32 0x7F800000#32 ix0)) = 1#1 := h
  rw [ht] at h'
  refine isReal_of_abs_lt _ ?_
  by_contra hn
  rw [decide_eq_false hn] at h'
  exact absurd h' (by decide)

/-- Two bits whose conjunction is set are both set. -/
theorem both_set : ∀ a b : BitVec 1, IntOp.andi a b = 1#1 → a = 1#1 ∧ b = 1#1 := by decide

/-- There is one index into a single value. -/
instance : Subsingleton S_.Idx := ⟨fun _ _ => funext fun a => a.elim0⟩

/-- Under the precondition every entry of the features, the weights and the biases is a real number. -/
theorem real_inputs (x0 : FVec Ideal S100000x128 .f32) (x1 : IVec S100000 32) (x2 : FVec Ideal S128x64 .f32)
    (x3 : FVec Ideal S64 .f32) (x4 : FVec Ideal S64x1 .f32) (x5 : FVec Ideal S1 .f32)
    (h : fn (F := Ideal) x0 x1 x2 x3 x4 x5 = fun _ => 1#1) :
    (∀ i, IsReal (x0 i)) ∧ (∀ i, IsReal (x2 i)) ∧ (∀ i, IsReal (x3 i)) ∧ (∀ i, IsReal (x4 i)) ∧ (∀ i, IsReal (x5 i)) := by
  have h0 := congrFun h ix0
  unfold fn fn_part1 at h0
  obtain ⟨h0, h5⟩ := both_set _ _ h0
  obtain ⟨h0, h4⟩ := both_set _ _ h0
  obtain ⟨h0, h3⟩ := both_set _ _ h0
  obtain ⟨h0, h2⟩ := both_set _ _ h0
  exact ⟨fun i => isReal_of_bit x0 _ i (Host.reduce_andi_all _ _ _ _ _ h0 i),
    fun i => isReal_of_bit x2 _ i (Host.reduce_andi_all _ _ _ _ _ h2 i),
    fun i => isReal_of_bit x3 _ i (Host.reduce_andi_all _ _ _ _ _ h3 i),
    fun i => isReal_of_bit x4 _ i (Host.reduce_andi_all _ _ _ _ _ h4 i),
    fun i => isReal_of_bit x5 _ i (Host.reduce_andi_all _ _ _ _ _ h5 i)⟩

end Cert.Pre_finite_inputs.Readout
-- ==== Proof.Equal.lean ====
/-
  The equation: under the precondition, from the same arguments, the kernel's result and the reference's are equal.
-/
module

public import proofs.«01_k».proof.Proof.Result
public import proofs.«01_k».proof.Proof.RefValue
public import proofs.«01_k».proof.Proof.Finite

@[expose] public section

set_option maxRecDepth 16384

noncomputable section

namespace Cert.Equal

open Cert.Readout Idealize.ShloMosaic Idealize.ShloMosaic.ValueIdx Idealize.ShloMosaic.TcCoe Idealize.SL.Sem
open Cert.KernelIdeal.Readout

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Under the precondition every score and every feature is a real number. -/
theorem real_values (h : Cert.Pre_KernelIdeal_finite_inputs m) :
    (∀ n, IsReal (score m c n)) ∧ (∀ n d, IsReal (feature m c n d)) := by
  obtain ⟨h0, h2, h3, h4, h5⟩ := Cert.Pre_finite_inputs.Readout.real_inputs _ _ _ _ _ _ (h c)
  exact ⟨fun n => isReal_network _ _ _ _ _ (fun d => h0 (ix2 n d)) (fun d k => h2 (ix2 d k)) (fun k => h3 (ix1 k))
    (fun k => h4 (ix2 k (0 : Fin 1))) (h5 (ix1 (0 : Fin 1))), fun n d => h0 (ix2 n d)⟩

/-- The reference's result is the kernel's. -/
theorem results_equal (h : Cert.Pre_KernelIdeal_finite_inputs m)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)) :
    Cert.ReferenceIdeal.Value.res_out0 m' c = result m c := by
  obtain ⟨hs, hf⟩ := real_values m c h
  choose σ hσ using hs
  choose x hx using hf
  have hscores : ∀ n, Cert.ReferenceIdeal.Readout.scoresOf m' c (ix1 n) = (σ n : EReal) := by
    intro n
    unfold Cert.ReferenceIdeal.Readout.scoresOf
    rw [h0, h2, h3, h4, h5]
    exact (Cert.ReferenceIdeal.Readout.scores_at _ _ _ _ _ n).trans (hσ n)
  have hnodes : ∀ g, Cert.ReferenceIdeal.Readout.nodes
      (m' ((c.tc : Thread Cert.ReferenceIdeal.nD Cert.ReferenceIdeal.τ).loc Cert.ReferenceIdeal.main_arg1)) g
        = Finset.univ.filter fun n => belongs m c g n := by
    intro g
    rw [h1]
    ext n
    unfold Cert.ReferenceIdeal.Readout.nodes
    rw [Finset.mem_filter, Finset.mem_filter]
    rfl
  have hfeature : ∀ n d, (m' ((c.tc : Thread Cert.ReferenceIdeal.nD Cert.ReferenceIdeal.τ).loc Cert.ReferenceIdeal.main_arg0)
      (ix2 n d) : EReal) = (x n d : EReal) := by
    intro n d
    rw [h0]
    exact hx n d
  funext i
  obtain ⟨g, d, rfl⟩ : ∃ (g : Fin 64) (d : Fin 128), i = ix2 g d := ⟨i 0, i 1, eq_ix2 i⟩
  refine (congrFun (Cert.ReferenceIdeal.Readout.result_stages m' c) (ix2 g d)).trans ?_
  refine (Cert.ReferenceIdeal.Readout.stages_at _ _ _ σ hscores g d).trans ?_
  refine Eq.trans ?_ (result_at m c σ x hσ hx g d).symm
  refine Eq.trans ?_ (divide σ (fun n => x n d) (Finset.univ.filter fun n => belongs m c g n)).symm
  rw [hnodes g]
  generalize (Finset.univ.filter fun n => belongs m c g n) = S
  refine Finset.sum_congr rfl fun n _ => ?_
  rw [hfeature n d]
  unfold Cert.ReferenceIdeal.Readout.shift
  rfl

end Cert.Equal
-- ==== Proof.lean ====
/-
  The certificate: the claims of Defs.lean, assembled.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments as they were, and ends with every counter at zero: it has no counters. -/
theorem frame_reference : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- From the same arguments, under the precondition, the kernel and the reference end with the same result. -/
theorem same_result : Cert.algebraic_KernelIdeal_ReferenceIdeal_pre_finite_inputs := by
  intro m g m' g' hpre hargs
  refine ⟨fun c => Cert.KernelIdeal.Readout.result m c, Cert.KernelIdeal.Readout.run m g, ?_⟩
  refine (θ_run Cert.ReferenceIdeal.defs _ _).mono (fun r h c => ?_) (Cert.ReferenceIdeal.Value.run (F := Ideal) m' g')
  obtain ⟨h0, h1, h2, h3, h4, h5⟩ := hargs c
  exact ⟨(h c).1.trans (Cert.Equal.results_equal m m' c hpre h0 h1 h2 h3 h4 h5), (h c).2⟩

/-- Every claim of the certificate. -/
theorem claim : Cert.Claim :=
  ⟨Cert.Kernel.Gen.facts, Cert.KernelIdeal.Gen.facts, Cert.ReferenceIdeal.Gen.facts, Cert.Pre_finite_inputs.Readout.shapes,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    same_result⟩

end Cert.Proof

end
